-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S1024x1024 : Shape := ⟨2, ![1024, 1024]⟩
abbrev S2x16x32x512 : Shape := ⟨4, ![2, 16, 32, 512]⟩
abbrev S2x32x512 : Shape := ⟨3, ![2, 32, 512]⟩
abbrev S2 : Shape := ⟨1, ![2]⟩
abbrev S2x16 : Shape := ⟨2, ![2, 16]⟩
abbrev S32x512 : Shape := ⟨2, ![32, 512]⟩
abbrev S1x1x32x512 : Shape := ⟨4, ![1, 1, 32, 512]⟩
abbrev S_ : Shape := ⟨0, ![]⟩
abbrev S1 : Shape := ⟨1, ![1]⟩
abbrev S1x16x32x512 : Shape := ⟨4, ![1, 16, 32, 512]⟩
abbrev S16x32x512 : Shape := ⟨3, ![16, 32, 512]⟩
abbrev S1x1 : Shape := ⟨2, ![1, 1]⟩
abbrev S1x32x512 : Shape := ⟨3, ![1, 32, 512]⟩

abbrev nBuf : Space → Nat
  | .hbm => 3
  | .vmem => 12
  | .smem => 0
  | _ => 0

abbrev bufTy : (tb : Table) → Fin (tcTables nBuf tb) → BufTy
  | .hbm, ⟨0, _⟩ => ⟨S1024x32, .bf16⟩
  | .hbm, ⟨1, _⟩ => ⟨S32x1024, .bf16⟩
  | .hbm, ⟨2, _⟩ => ⟨S1024x1024, .f32⟩
  | .local _ .vmem, ⟨0, _⟩ => ⟨S1024x32, .bf16⟩
  | .local _ .vmem, ⟨1, _⟩ => ⟨S32x1024, .bf16⟩
  | .local _ .vmem, ⟨2, _⟩ => ⟨S1024x1024, .f32⟩
  | .local _ .vmem, ⟨3, _⟩ => ⟨S1024x1024, .f32⟩
  | .local _ .vmem, ⟨4, _⟩ => ⟨S2x16x32x512, .bf16⟩
  | .local _ .vmem, ⟨5, _⟩ => ⟨S2x16x32x512, .bf16⟩
  | .local _ .vmem, ⟨6, _⟩ => ⟨S2x16x32x512, .f32⟩
  | .local _ .vmem, ⟨7, _⟩ => ⟨S2x16x32x512, .bf16⟩
  | .local _ .vmem, ⟨8, _⟩ => ⟨S2x16x32x512, .bf16⟩
  | .local _ .vmem, ⟨9, _⟩ => ⟨S2x32x512, .bf16⟩
  | .local _ .vmem, ⟨10, _⟩ => ⟨S2x16x32x512, .bf16⟩
  | .local _ .vmem, ⟨11, _⟩ => ⟨S2x16x32x512, .bf16⟩
  | _, _ => ⟨S1024x32, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 139 → Bool
  | ⟨i, _⟩ => dmaSemScopedAt i

abbrev sig : RefSig :=
  (ofTc nBuf bufTy 1 139 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let v16 : BitVec 32 := Scalar.addi v7 c0_i32
  let c32_i32_7 : BitVec 32 := 32#32
  let v17 : BitVec 32 := Scalar.remsi v16 c32_i32_7
  let c1_i32_8 : BitVec 32 := 1#32
  let v18 : BitVec 32 := Scalar.subi c1_i32_8 v3
  let v19 : BitVec 32 := Scalar.addi v17 v18
  let c32_i32_9 : BitVec 32 := 32#32
  let v20 : BitVec 32 := Scalar.muli v19 c32_i32_9
  let v21 : Index := Scalar.indexCast v20
  let c0_10 : Index := 0#32
  ![v21.toNat, 0]
def k0_off2 (d0 : Dev nD) (c0_i32_121 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let v192 : BitVec 32 := Scalar.addi v7 c0_i32_121
  let c32_i32_122 : BitVec 32 := 32#32
  let v193 : BitVec 32 := Scalar.remsi v192 c32_i32_122
  let c1_i32_123 : BitVec 32 := 1#32
  let v194 : BitVec 32 := Scalar.subi c1_i32_123 v3
  let v195 : BitVec 32 := Scalar.addi v193 v194
  let c32_i32_124 : BitVec 32 := 32#32
  let v196 : BitVec 32 := Scalar.muli v195 c32_i32_124
  let v197 : Index := Scalar.indexCast v196
  let c512 : Index := 512#32
  ![v197.toNat, 512]
def k0_dev1 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_265 : BitVec 32 := 1#32
  let v369 : BitVec 32 := Scalar.muli v6 c1_i32_265
  let v370 : BitVec 32 := Scalar.addi c0_i32_266 v369
  v370.toNat
def k0_dev2 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c2_i32_267 : BitVec 32 := 2#32
  let v371 : BitVec 32 := Scalar.addi v7 c2_i32_267
  let c32_i32_268 : BitVec 32 := 32#32
  let v372 : BitVec 32 := Scalar.remsi v371 c32_i32_268
  let v373 : BitVec 32 := Scalar.addi v372 v3
  let c1_i32_270 : BitVec 32 := 1#32
  let v374 : BitVec 32 := Scalar.muli v373 c1_i32_270
  let v375 : BitVec 32 := Scalar.addi c0_i32_271 v374
  v375.toNat
def k0_dev3 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c4_i32_272 : BitVec 32 := 4#32
  let v376 : BitVec 32 := Scalar.addi v7 c4_i32_272
  let c32_i32_273 : BitVec 32 := 32#32
  let v377 : BitVec 32 := Scalar.remsi v376 c32_i32_273
  let v378 : BitVec 32 := Scalar.addi v377 v3
  let c1_i32_275 : BitVec 32 := 1#32
  let v379 : BitVec 32 := Scalar.muli v378 c1_i32_275
  let v380 : BitVec 32 := Scalar.addi c0_i32_276 v379
  v380.toNat
def k0_dev4 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c6_i32_277 : BitVec 32 := 6#32
  let v381 : BitVec 32 := Scalar.addi v7 c6_i32_277
  let c32_i32_278 : BitVec 32 := 32#32
  let v382 : BitVec 32 := Scalar.remsi v381 c32_i32_278
  let v383 : BitVec 32 := Scalar.addi v382 v3
  let c1_i32_280 : BitVec 32 := 1#32
  let v384 : BitVec 32 := Scalar.muli v383 c1_i32_280
  let v385 : BitVec 32 := Scalar.addi c0_i32_281 v384
  v385.toNat
def k0_dev5 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c8_i32_282 : BitVec 32 := 8#32
  let v386 : BitVec 32 := Scalar.addi v7 c8_i32_282
  let c32_i32_283 : BitVec 32 := 32#32
  let v387 : BitVec 32 := Scalar.remsi v386 c32_i32_283
  let v388 : BitVec 32 := Scalar.addi v387 v3
  let c1_i32_285 : BitVec 32 := 1#32
  let v389 : BitVec 32 := Scalar.muli v388 c1_i32_285
  let v390 : BitVec 32 := Scalar.addi c0_i32_286 v389
  v390.toNat
def k0_dev6 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c10_i32_287 : BitVec 32 := 10#32
  let v391 : BitVec 32 := Scalar.addi v7 c10_i32_287
  let c32_i32_288 : BitVec 32 := 32#32
  let v392 : BitVec 32 := Scalar.remsi v391 c32_i32_288
  let v393 : BitVec 32 := Scalar.addi v392 v3
  let c1_i32_290 : BitVec 32 := 1#32
  let v394 : BitVec 32 := Scalar.muli v393 c1_i32_290
  let v395 : BitVec 32 := Scalar.addi c0_i32_291 v394
  v395.toNat
def k0_dev7 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c12_i32_292 : BitVec 32 := 12#32
  let v396 : BitVec 32 := Scalar.addi v7 c12_i32_292
  let c32_i32_293 : BitVec 32 := 32#32
  let v397 : BitVec 32 := Scalar.remsi v396 c32_i32_293
  let v398 : BitVec 32 := Scalar.addi v397 v3
  let c1_i32_295 : BitVec 32 := 1#32
  let v399 : BitVec 32 := Scalar.muli v398 c1_i32_295
  let v400 : BitVec 32 := Scalar.addi c0_i32_296 v399
  v400.toNat
def k0_dev8 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c14_i32_297 : BitVec 32 := 14#32
  let v401 : BitVec 32 := Scalar.addi v7 c14_i32_297
  let c32_i32_298 : BitVec 32 := 32#32
  let v402 : BitVec 32 := Scalar.remsi v401 c32_i32_298
  let v403 : BitVec 32 := Scalar.addi v402 v3
  let c1_i32_300 : BitVec 32 := 1#32
  let v404 : BitVec 32 := Scalar.muli v403 c1_i32_300
  let v405 : BitVec 32 := Scalar.addi c0_i32_301 v404
  v405.toNat
def k0_dev9 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c16_i32_302 : BitVec 32 := 16#32
  let v406 : BitVec 32 := Scalar.addi v7 c16_i32_302
  let c32_i32_303 : BitVec 32 := 32#32
  let v407 : BitVec 32 := Scalar.remsi v406 c32_i32_303
  let v408 : BitVec 32 := Scalar.addi v407 v3
  let c1_i32_305 : BitVec 32 := 1#32
  let v409 : BitVec 32 := Scalar.muli v408 c1_i32_305
  let v410 : BitVec 32 := Scalar.addi c0_i32_306 v409
  v410.toNat
def k0_dev10 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c18_i32_307 : BitVec 32 := 18#32
  let v411 : BitVec 32 := Scalar.addi v7 c18_i32_307
  let c32_i32_308 : BitVec 32 := 32#32
  let v412 : BitVec 32 := Scalar.remsi v411 c32_i32_308
  let v413 : BitVec 32 := Scalar.addi v412 v3
  let c1_i32_310 : BitVec 32 := 1#32
  let v414 : BitVec 32 := Scalar.muli v413 c1_i32_310
  let v415 : BitVec 32 := Scalar.addi c0_i32_311 v414
  v415.toNat
def k0_dev11 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c20_i32_312 : BitVec 32 := 20#32
  let v416 : BitVec 32 := Scalar.addi v7 c20_i32_312
  let c32_i32_313 : BitVec 32 := 32#32
  let v417 : BitVec 32 := Scalar.remsi v416 c32_i32_313
  let v418 : BitVec 32 := Scalar.addi v417 v3
  let c1_i32_315 : BitVec 32 := 1#32
  let v419 : BitVec 32 := Scalar.muli v418 c1_i32_315
  let v420 : BitVec 32 := Scalar.addi c0_i32_316 v419
  v420.toNat
def k0_dev12 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c22_i32_317 : BitVec 32 := 22#32
  let v421 : BitVec 32 := Scalar.addi v7 c22_i32_317
  let c32_i32_318 : BitVec 32 := 32#32
  let v422 : BitVec 32 := Scalar.remsi v421 c32_i32_318
  let v423 : BitVec 32 := Scalar.addi v422 v3
  let c1_i32_320 : BitVec 32 := 1#32
  let v424 : BitVec 32 := Scalar.muli v423 c1_i32_320
  let v425 : BitVec 32 := Scalar.addi c0_i32_321 v424
  v425.toNat
def k0_dev13 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c24_i32_322 : BitVec 32 := 24#32
  let v426 : BitVec 32 := Scalar.addi v7 c24_i32_322
  let c32_i32_323 : BitVec 32 := 32#32
  let v427 : BitVec 32 := Scalar.remsi v426 c32_i32_323
  let v428 : BitVec 32 := Scalar.addi v427 v3
  let c1_i32_325 : BitVec 32 := 1#32
  let v429 : BitVec 32 := Scalar.muli v428 c1_i32_325
  let v430 : BitVec 32 := Scalar.addi c0_i32_326 v429
  v430.toNat
def k0_dev14 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c26_i32_327 : BitVec 32 := 26#32
  let v431 : BitVec 32 := Scalar.addi v7 c26_i32_327
  let c32_i32_328 : BitVec 32 := 32#32
  let v432 : BitVec 32 := Scalar.remsi v431 c32_i32_328
  let v433 : BitVec 32 := Scalar.addi v432 v3
  let c1_i32_330 : BitVec 32 := 1#32
  let v434 : BitVec 32 := Scalar.muli v433 c1_i32_330
  let v435 : BitVec 32 := Scalar.addi c0_i32_331 v434
  v435.toNat
def k0_dev15 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c28_i32_332 : BitVec 32 := 28#32
  let v436 : BitVec 32 := Scalar.addi v7 c28_i32_332
  let c32_i32_333 : BitVec 32 := 32#32
  let v437 : BitVec 32 := Scalar.remsi v436 c32_i32_333
  let v438 : BitVec 32 := Scalar.addi v437 v3
  let c1_i32_335 : BitVec 32 := 1#32
  let v439 : BitVec 32 := Scalar.muli v438 c1_i32_335
  let v440 : BitVec 32 := Scalar.addi c0_i32_336 v439
  v440.toNat
def k0_dev16 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c30_i32_337 : BitVec 32 := 30#32
  let v441 : BitVec 32 := Scalar.addi v7 c30_i32_337
  let c32_i32_338 : BitVec 32 := 32#32
  let v442 : BitVec 32 := Scalar.remsi v441 c32_i32_338
  let v443 : BitVec 32 := Scalar.addi v442 v3
  let c1_i32_340 : BitVec 32 := 1#32
  let v444 : BitVec 32 := Scalar.muli v443 c1_i32_340
  let v445 : BitVec 32 := Scalar.addi c0_i32_341 v444
  v445.toNat
def k0_dev17 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_347 : BitVec 32 := 1#32
  let v446 : BitVec 32 := Scalar.muli v6 c1_i32_347
  let v447 : BitVec 32 := Scalar.addi c0_i32_348 v446
  v447.toNat
def k0_dev18 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_359 : BitVec 32 := 1#32
  let v456 : BitVec 32 := Scalar.muli v6 c1_i32_359
  let v457 : BitVec 32 := Scalar.addi c0_i32_360 v456
  v457.toNat
def k0_off3 (d0 : Dev nD) (c0_i32_379 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let v474 : BitVec 32 := Scalar.addi v7 c0_i32_379
  let c32_i32_380 : BitVec 32 := 32#32
  let v475 : BitVec 32 := Scalar.remsi v474 c32_i32_380
  let v476 : BitVec 32 := Scalar.addi v475 v3
  let c32_i32_381 : BitVec 32 := 32#32
  let v477 : BitVec 32 := Scalar.muli v476 c32_i32_381
  let v478 : Index := Scalar.indexCast v477
  let c0_382 : Index := 0#32
  ![v478.toNat, 0]
def k0_dev19 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c2_i32_579 : BitVec 32 := 2#32
  let v688 : BitVec 32 := Scalar.addi v7 c2_i32_579
  let c32_i32_580 : BitVec 32 := 32#32
  let v689 : BitVec 32 := Scalar.remsi v688 c32_i32_580
  let v690 : BitVec 32 := Scalar.addi v689 v3
  let c1_i32_588 : BitVec 32 := 1#32
  let v691 : BitVec 32 := Scalar.muli v690 c1_i32_588
  let v692 : BitVec 32 := Scalar.addi c0_i32_589 v691
  v692.toNat
def k0_dev20 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c4_i32_602 : BitVec 32 := 4#32
  let v707 : BitVec 32 := Scalar.addi v7 c4_i32_602
  let c32_i32_603 : BitVec 32 := 32#32
  let v708 : BitVec 32 := Scalar.remsi v707 c32_i32_603
  let v709 : BitVec 32 := Scalar.addi v708 v3
  let c1_i32_612 : BitVec 32 := 1#32
  let v710 : BitVec 32 := Scalar.muli v709 c1_i32_612
  let v711 : BitVec 32 := Scalar.addi c0_i32_613 v710
  v711.toNat
def k0_dev21 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c6_i32_626 : BitVec 32 := 6#32
  let v726 : BitVec 32 := Scalar.addi v7 c6_i32_626
  let c32_i32_627 : BitVec 32 := 32#32
  let v727 : BitVec 32 := Scalar.remsi v726 c32_i32_627
  let v728 : BitVec 32 := Scalar.addi v727 v3
  let c1_i32_634 : BitVec 32 := 1#32
  let v729 : BitVec 32 := Scalar.muli v728 c1_i32_634
  let v730 : BitVec 32 := Scalar.addi c0_i32_635 v729
  v730.toNat
def k0_dev22 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c8_i32_648 : BitVec 32 := 8#32
  let v745 : BitVec 32 := Scalar.addi v7 c8_i32_648
  let c32_i32_649 : BitVec 32 := 32#32
  let v746 : BitVec 32 := Scalar.remsi v745 c32_i32_649
  let v747 : BitVec 32 := Scalar.addi v746 v3
  let c1_i32_658 : BitVec 32 := 1#32
  let v748 : BitVec 32 := Scalar.muli v747 c1_i32_658
  let v749 : BitVec 32 := Scalar.addi c0_i32_659 v748
  v749.toNat
def k0_dev23 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c10_i32_672 : BitVec 32 := 10#32
  let v764 : BitVec 32 := Scalar.addi v7 c10_i32_672
  let c32_i32_673 : BitVec 32 := 32#32
  let v765 : BitVec 32 := Scalar.remsi v764 c32_i32_673
  let v766 : BitVec 32 := Scalar.addi v765 v3
  let c1_i32_680 : BitVec 32 := 1#32
  let v767 : BitVec 32 := Scalar.muli v766 c1_i32_680
  let v768 : BitVec 32 := Scalar.addi c0_i32_681 v767
  v768.toNat
def k0_dev24 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c12_i32_694 : BitVec 32 := 12#32
  let v783 : BitVec 32 := Scalar.addi v7 c12_i32_694
  let c32_i32_695 : BitVec 32 := 32#32
  let v784 : BitVec 32 := Scalar.remsi v783 c32_i32_695
  let v785 : BitVec 32 := Scalar.addi v784 v3
  let c1_i32_704 : BitVec 32 := 1#32
  let v786 : BitVec 32 := Scalar.muli v785 c1_i32_704
  let v787 : BitVec 32 := Scalar.addi c0_i32_705 v786
  v787.toNat
def k0_dev25 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c14_i32_718 : BitVec 32 := 14#32
  let v802 : BitVec 32 := Scalar.addi v7 c14_i32_718
  let c32_i32_719 : BitVec 32 := 32#32
  let v803 : BitVec 32 := Scalar.remsi v802 c32_i32_719
  let v804 : BitVec 32 := Scalar.addi v803 v3
  let c1_i32_726 : BitVec 32 := 1#32
  let v805 : BitVec 32 := Scalar.muli v804 c1_i32_726
  let v806 : BitVec 32 := Scalar.addi c0_i32_727 v805
  v806.toNat
def k0_dev26 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c16_i32_740 : BitVec 32 := 16#32
  let v821 : BitVec 32 := Scalar.addi v7 c16_i32_740
  let c32_i32_741 : BitVec 32 := 32#32
  let v822 : BitVec 32 := Scalar.remsi v821 c32_i32_741
  let v823 : BitVec 32 := Scalar.addi v822 v3
  let c1_i32_750 : BitVec 32 := 1#32
  let v824 : BitVec 32 := Scalar.muli v823 c1_i32_750
  let v825 : BitVec 32 := Scalar.addi c0_i32_751 v824
  v825.toNat
def k0_dev27 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c18_i32_764 : BitVec 32 := 18#32
  let v840 : BitVec 32 := Scalar.addi v7 c18_i32_764
  let c32_i32_765 : BitVec 32 := 32#32
  let v841 : BitVec 32 := Scalar.remsi v840 c32_i32_765
  let v842 : BitVec 32 := Scalar.addi v841 v3
  let c1_i32_774 : BitVec 32 := 1#32
  let v843 : BitVec 32 := Scalar.muli v842 c1_i32_774
  let v844 : BitVec 32 := Scalar.addi c0_i32_775 v843
  v844.toNat
def k0_dev28 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c20_i32_788 : BitVec 32 := 20#32
  let v859 : BitVec 32 := Scalar.addi v7 c20_i32_788
  let c32_i32_789 : BitVec 32 := 32#32
  let v860 : BitVec 32 := Scalar.remsi v859 c32_i32_789
  let v861 : BitVec 32 := Scalar.addi v860 v3
  let c1_i32_798 : BitVec 32 := 1#32
  let v862 : BitVec 32 := Scalar.muli v861 c1_i32_798
  let v863 : BitVec 32 := Scalar.addi c0_i32_799 v862
  v863.toNat
def k0_dev29 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c22_i32_812 : BitVec 32 := 22#32
  let v878 : BitVec 32 := Scalar.addi v7 c22_i32_812
  let c32_i32_813 : BitVec 32 := 32#32
  let v879 : BitVec 32 := Scalar.remsi v878 c32_i32_813
  let v880 : BitVec 32 := Scalar.addi v879 v3
  let c1_i32_822 : BitVec 32 := 1#32
  let v881 : BitVec 32 := Scalar.muli v880 c1_i32_822
  let v882 : BitVec 32 := Scalar.addi c0_i32_823 v881
  v882.toNat
def k0_dev30 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c24_i32_836 : BitVec 32 := 24#32
  let v897 : BitVec 32 := Scalar.addi v7 c24_i32_836
  let c32_i32_837 : BitVec 32 := 32#32
  let v898 : BitVec 32 := Scalar.remsi v897 c32_i32_837
  let v899 : BitVec 32 := Scalar.addi v898 v3
  let c1_i32_846 : BitVec 32 := 1#32
  let v900 : BitVec 32 := Scalar.muli v899 c1_i32_846
  let v901 : BitVec 32 := Scalar.addi c0_i32_847 v900
  v901.toNat
def k0_dev31 (d0 : Dev nD) : Nat :=
  let c0_i32_871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c26_i32_860 : BitVec 32 := 26#32
  let v916 : BitVec 32 := Scalar.addi v7 c26_i32_860
  let c32_i32_861 : BitVec 32 := 32#32
  let v917 : BitVec 32 := Scalar.remsi v916 c32_i32_861
  let v918 : BitVec 32 := Scalar.addi v917 v3
  let c1_i32_870 : BitVec 32 := 1#32
  let v919 : BitVec 32 := Scalar.muli v918 c1_i32_870
  let v920 : BitVec 32 := Scalar.addi c0_i32_871 v919
  v920.toNat
def k0_dev32 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c28_i32_884 : BitVec 32 := 28#32
  let v935 : BitVec 32 := Scalar.addi v7 c28_i32_884
  let c32_i32_885 : BitVec 32 := 32#32
  let v936 : BitVec 32 := Scalar.remsi v935 c32_i32_885
  let v937 : BitVec 32 := Scalar.addi v936 v3
  let c1_i32_894 : BitVec 32 := 1#32
  let v938 : BitVec 32 := Scalar.muli v937 c1_i32_894
  let v939 : BitVec 32 := Scalar.addi c0_i32_895 v938
  v939.toNat
def k0_dev33 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c30_i32_908 : BitVec 32 := 30#32
  let v954 : BitVec 32 := Scalar.addi v7 c30_i32_908
  let c32_i32_909 : BitVec 32 := 32#32
  let v955 : BitVec 32 := Scalar.remsi v954 c32_i32_909
  let v956 : BitVec 32 := Scalar.addi v955 v3
  let c1_i32_918 : BitVec 32 := 1#32
  let v957 : BitVec 32 := Scalar.muli v956 c1_i32_918
  let v958 : BitVec 32 := Scalar.addi c0_i32_919 v957
  v958.toNat
def k0_off4 (d0 : Dev nD) (c0_i32_936 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let v975 : BitVec 32 := Scalar.addi v7 c0_i32_936
  let c32_i32_937 : BitVec 32 := 32#32
  let v976 : BitVec 32 := Scalar.remsi v975 c32_i32_937
  let v977 : BitVec 32 := Scalar.addi v976 v3
  let c32_i32_938 : BitVec 32 := 32#32
  let v978 : BitVec 32 := Scalar.muli v977 c32_i32_938
  let v979 : Index := Scalar.indexCast v978
  let c512_939 : Index := 512#32
  ![v979.toNat, 512]
def k0_dev34 (d0 : Dev nD) : Nat :=
  let c0_i32_1147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c2_i32_1136 : BitVec 32 := 2#32
  let v1189 : BitVec 32 := Scalar.addi v7 c2_i32_1136
  let c32_i32_1137 : BitVec 32 := 32#32
  let v1190 : BitVec 32 := Scalar.remsi v1189 c32_i32_1137
  let v1191 : BitVec 32 := Scalar.addi v1190 v3
  let c1_i32_1146 : BitVec 32 := 1#32
  let v1192 : BitVec 32 := Scalar.muli v1191 c1_i32_1146
  let v1193 : BitVec 32 := Scalar.addi c0_i32_1147 v1192
  v1193.toNat
def k0_dev35 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c4_i32_1160 : BitVec 32 := 4#32
  let v1208 : BitVec 32 := Scalar.addi v7 c4_i32_1160
  let c32_i32_1161 : BitVec 32 := 32#32
  let v1209 : BitVec 32 := Scalar.remsi v1208 c32_i32_1161
  let v1210 : BitVec 32 := Scalar.addi v1209 v3
  let c1_i32_1170 : BitVec 32 := 1#32
  let v1211 : BitVec 32 := Scalar.muli v1210 c1_i32_1170
  let v1212 : BitVec 32 := Scalar.addi c0_i32_1171 v1211
  v1212.toNat
def k0_dev36 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c6_i32_1184 : BitVec 32 := 6#32
  let v1227 : BitVec 32 := Scalar.addi v7 c6_i32_1184
  let c32_i32_1185 : BitVec 32 := 32#32
  let v1228 : BitVec 32 := Scalar.remsi v1227 c32_i32_1185
  let v1229 : BitVec 32 := Scalar.addi v1228 v3
  let c1_i32_1194 : BitVec 32 := 1#32
  let v1230 : BitVec 32 := Scalar.muli v1229 c1_i32_1194
  let v1231 : BitVec 32 := Scalar.addi c0_i32_1195 v1230
  v1231.toNat
def k0_dev37 (d0 : Dev nD) : Nat :=
  let c0_i32_1219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c8_i32_1208 : BitVec 32 := 8#32
  let v1246 : BitVec 32 := Scalar.addi v7 c8_i32_1208
  let c32_i32_1209 : BitVec 32 := 32#32
  let v1247 : BitVec 32 := Scalar.remsi v1246 c32_i32_1209
  let v1248 : BitVec 32 := Scalar.addi v1247 v3
  let c1_i32_1218 : BitVec 32 := 1#32
  let v1249 : BitVec 32 := Scalar.muli v1248 c1_i32_1218
  let v1250 : BitVec 32 := Scalar.addi c0_i32_1219 v1249
  v1250.toNat
def k0_dev38 (d0 : Dev nD) : Nat :=
  let c0_i32_1243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c10_i32_1232 : BitVec 32 := 10#32
  let v1265 : BitVec 32 := Scalar.addi v7 c10_i32_1232
  let c32_i32_1233 : BitVec 32 := 32#32
  let v1266 : BitVec 32 := Scalar.remsi v1265 c32_i32_1233
  let v1267 : BitVec 32 := Scalar.addi v1266 v3
  let c1_i32_1242 : BitVec 32 := 1#32
  let v1268 : BitVec 32 := Scalar.muli v1267 c1_i32_1242
  let v1269 : BitVec 32 := Scalar.addi c0_i32_1243 v1268
  v1269.toNat
def k0_dev39 (d0 : Dev nD) : Nat :=
  let c0_i32_1267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c12_i32_1256 : BitVec 32 := 12#32
  let v1284 : BitVec 32 := Scalar.addi v7 c12_i32_1256
  let c32_i32_1257 : BitVec 32 := 32#32
  let v1285 : BitVec 32 := Scalar.remsi v1284 c32_i32_1257
  let v1286 : BitVec 32 := Scalar.addi v1285 v3
  let c1_i32_1266 : BitVec 32 := 1#32
  let v1287 : BitVec 32 := Scalar.muli v1286 c1_i32_1266
  let v1288 : BitVec 32 := Scalar.addi c0_i32_1267 v1287
  v1288.toNat
def k0_dev40 (d0 : Dev nD) : Nat :=
  let c0_i32_1291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c14_i32_1280 : BitVec 32 := 14#32
  let v1303 : BitVec 32 := Scalar.addi v7 c14_i32_1280
  let c32_i32_1281 : BitVec 32 := 32#32
  let v1304 : BitVec 32 := Scalar.remsi v1303 c32_i32_1281
  let v1305 : BitVec 32 := Scalar.addi v1304 v3
  let c1_i32_1290 : BitVec 32 := 1#32
  let v1306 : BitVec 32 := Scalar.muli v1305 c1_i32_1290
  let v1307 : BitVec 32 := Scalar.addi c0_i32_1291 v1306
  v1307.toNat
def k0_dev41 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c16_i32_1304 : BitVec 32 := 16#32
  let v1322 : BitVec 32 := Scalar.addi v7 c16_i32_1304
  let c32_i32_1305 : BitVec 32 := 32#32
  let v1323 : BitVec 32 := Scalar.remsi v1322 c32_i32_1305
  let v1324 : BitVec 32 := Scalar.addi v1323 v3
  let c1_i32_1314 : BitVec 32 := 1#32
  let v1325 : BitVec 32 := Scalar.muli v1324 c1_i32_1314
  let v1326 : BitVec 32 := Scalar.addi c0_i32_1315 v1325
  v1326.toNat
def k0_dev42 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c18_i32_1328 : BitVec 32 := 18#32
  let v1341 : BitVec 32 := Scalar.addi v7 c18_i32_1328
  let c32_i32_1329 : BitVec 32 := 32#32
  let v1342 : BitVec 32 := Scalar.remsi v1341 c32_i32_1329
  let v1343 : BitVec 32 := Scalar.addi v1342 v3
  let c1_i32_1338 : BitVec 32 := 1#32
  let v1344 : BitVec 32 := Scalar.muli v1343 c1_i32_1338
  let v1345 : BitVec 32 := Scalar.addi c0_i32_1339 v1344
  v1345.toNat
def k0_dev43 (d0 : Dev nD) : Nat :=
  let c0_i32_1363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c20_i32_1352 : BitVec 32 := 20#32
  let v1360 : BitVec 32 := Scalar.addi v7 c20_i32_1352
  let c32_i32_1353 : BitVec 32 := 32#32
  let v1361 : BitVec 32 := Scalar.remsi v1360 c32_i32_1353
  let v1362 : BitVec 32 := Scalar.addi v1361 v3
  let c1_i32_1362 : BitVec 32 := 1#32
  let v1363 : BitVec 32 := Scalar.muli v1362 c1_i32_1362
  let v1364 : BitVec 32 := Scalar.addi c0_i32_1363 v1363
  v1364.toNat
def k0_dev44 (d0 : Dev nD) : Nat :=
  let c0_i32_1387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c22_i32_1376 : BitVec 32 := 22#32
  let v1379 : BitVec 32 := Scalar.addi v7 c22_i32_1376
  let c32_i32_1377 : BitVec 32 := 32#32
  let v1380 : BitVec 32 := Scalar.remsi v1379 c32_i32_1377
  let v1381 : BitVec 32 := Scalar.addi v1380 v3
  let c1_i32_1386 : BitVec 32 := 1#32
  let v1382 : BitVec 32 := Scalar.muli v1381 c1_i32_1386
  let v1383 : BitVec 32 := Scalar.addi c0_i32_1387 v1382
  v1383.toNat
def k0_dev45 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c24_i32_1400 : BitVec 32 := 24#32
  let v1398 : BitVec 32 := Scalar.addi v7 c24_i32_1400
  let c32_i32_1401 : BitVec 32 := 32#32
  let v1399 : BitVec 32 := Scalar.remsi v1398 c32_i32_1401
  let v1400 : BitVec 32 := Scalar.addi v1399 v3
  let c1_i32_1410 : BitVec 32 := 1#32
  let v1401 : BitVec 32 := Scalar.muli v1400 c1_i32_1410
  let v1402 : BitVec 32 := Scalar.addi c0_i32_1411 v1401
  v1402.toNat
def k0_dev46 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c26_i32_1424 : BitVec 32 := 26#32
  let v1417 : BitVec 32 := Scalar.addi v7 c26_i32_1424
  let c32_i32_1425 : BitVec 32 := 32#32
  let v1418 : BitVec 32 := Scalar.remsi v1417 c32_i32_1425
  let v1419 : BitVec 32 := Scalar.addi v1418 v3
  let c1_i32_1434 : BitVec 32 := 1#32
  let v1420 : BitVec 32 := Scalar.muli v1419 c1_i32_1434
  let v1421 : BitVec 32 := Scalar.addi c0_i32_1435 v1420
  v1421.toNat
def k0_dev47 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c28_i32_1448 : BitVec 32 := 28#32
  let v1436 : BitVec 32 := Scalar.addi v7 c28_i32_1448
  let c32_i32_1449 : BitVec 32 := 32#32
  let v1437 : BitVec 32 := Scalar.remsi v1436 c32_i32_1449
  let v1438 : BitVec 32 := Scalar.addi v1437 v3
  let c1_i32_1458 : BitVec 32 := 1#32
  let v1439 : BitVec 32 := Scalar.muli v1438 c1_i32_1458
  let v1440 : BitVec 32 := Scalar.addi c0_i32_1459 v1439
  v1440.toNat
def k0_dev48 (d0 : Dev nD) : Nat :=
  let c0_i32_1483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c30_i32_1472 : BitVec 32 := 30#32
  let v1455 : BitVec 32 := Scalar.addi v7 c30_i32_1472
  let c32_i32_1473 : BitVec 32 := 32#32
  let v1456 : BitVec 32 := Scalar.remsi v1455 c32_i32_1473
  let v1457 : BitVec 32 := Scalar.addi v1456 v3
  let c1_i32_1482 : BitVec 32 := 1#32
  let v1458 : BitVec 32 := Scalar.muli v1457 c1_i32_1482
  let v1459 : BitVec 32 := Scalar.addi c0_i32_1483 v1458
  v1459.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1766 : BitVec 32 := 32#32
  let v1663 : BitVec 32 := Scalar.muli v2 c32_i32_1766
  let v1664 : Index := Scalar.indexCast v1663
  let c0_1767 : Index := 0#32
  ![v1664.toNat, 0]
def k0_dev49 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c2_i32_1778 : BitVec 32 := 2#32
  let v1675 : BitVec 32 := Scalar.addi v7 c2_i32_1778
  let c32_i32_1779 : BitVec 32 := 32#32
  let v1676 : BitVec 32 := Scalar.remsi v1675 c32_i32_1779
  let v1677 : BitVec 32 := Scalar.addi v1676 v3
  let c1_i32_1787 : BitVec 32 := 1#32
  let v1678 : BitVec 32 := Scalar.muli v1677 c1_i32_1787
  let v1679 : BitVec 32 := Scalar.addi c0_i32_1788 v1678
  v1679.toNat
def k0_dev50 (d0 : Dev nD) : Nat :=
  let c0_i32_1803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c4_i32_1793 : BitVec 32 := 4#32
  let v1688 : BitVec 32 := Scalar.addi v7 c4_i32_1793
  let c32_i32_1794 : BitVec 32 := 32#32
  let v1689 : BitVec 32 := Scalar.remsi v1688 c32_i32_1794
  let v1690 : BitVec 32 := Scalar.addi v1689 v3
  let c1_i32_1802 : BitVec 32 := 1#32
  let v1691 : BitVec 32 := Scalar.muli v1690 c1_i32_1802
  let v1692 : BitVec 32 := Scalar.addi c0_i32_1803 v1691
  v1692.toNat
def k0_dev51 (d0 : Dev nD) : Nat :=
  let c0_i32_1818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c6_i32_1808 : BitVec 32 := 6#32
  let v1701 : BitVec 32 := Scalar.addi v7 c6_i32_1808
  let c32_i32_1809 : BitVec 32 := 32#32
  let v1702 : BitVec 32 := Scalar.remsi v1701 c32_i32_1809
  let v1703 : BitVec 32 := Scalar.addi v1702 v3
  let c1_i32_1817 : BitVec 32 := 1#32
  let v1704 : BitVec 32 := Scalar.muli v1703 c1_i32_1817
  let v1705 : BitVec 32 := Scalar.addi c0_i32_1818 v1704
  v1705.toNat
def k0_dev52 (d0 : Dev nD) : Nat :=
  let c0_i32_1833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c8_i32_1823 : BitVec 32 := 8#32
  let v1714 : BitVec 32 := Scalar.addi v7 c8_i32_1823
  let c32_i32_1824 : BitVec 32 := 32#32
  let v1715 : BitVec 32 := Scalar.remsi v1714 c32_i32_1824
  let v1716 : BitVec 32 := Scalar.addi v1715 v3
  let c1_i32_1832 : BitVec 32 := 1#32
  let v1717 : BitVec 32 := Scalar.muli v1716 c1_i32_1832
  let v1718 : BitVec 32 := Scalar.addi c0_i32_1833 v1717
  v1718.toNat
def k0_dev53 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c10_i32_1838 : BitVec 32 := 10#32
  let v1727 : BitVec 32 := Scalar.addi v7 c10_i32_1838
  let c32_i32_1839 : BitVec 32 := 32#32
  let v1728 : BitVec 32 := Scalar.remsi v1727 c32_i32_1839
  let v1729 : BitVec 32 := Scalar.addi v1728 v3
  let c1_i32_1847 : BitVec 32 := 1#32
  let v1730 : BitVec 32 := Scalar.muli v1729 c1_i32_1847
  let v1731 : BitVec 32 := Scalar.addi c0_i32_1848 v1730
  v1731.toNat
def k0_dev54 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c12_i32_1853 : BitVec 32 := 12#32
  let v1740 : BitVec 32 := Scalar.addi v7 c12_i32_1853
  let c32_i32_1854 : BitVec 32 := 32#32
  let v1741 : BitVec 32 := Scalar.remsi v1740 c32_i32_1854
  let v1742 : BitVec 32 := Scalar.addi v1741 v3
  let c1_i32_1862 : BitVec 32 := 1#32
  let v1743 : BitVec 32 := Scalar.muli v1742 c1_i32_1862
  let v1744 : BitVec 32 := Scalar.addi c0_i32_1863 v1743
  v1744.toNat
def k0_dev55 (d0 : Dev nD) : Nat :=
  let c0_i32_1878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c14_i32_1868 : BitVec 32 := 14#32
  let v1753 : BitVec 32 := Scalar.addi v7 c14_i32_1868
  let c32_i32_1869 : BitVec 32 := 32#32
  let v1754 : BitVec 32 := Scalar.remsi v1753 c32_i32_1869
  let v1755 : BitVec 32 := Scalar.addi v1754 v3
  let c1_i32_1877 : BitVec 32 := 1#32
  let v1756 : BitVec 32 := Scalar.muli v1755 c1_i32_1877
  let v1757 : BitVec 32 := Scalar.addi c0_i32_1878 v1756
  v1757.toNat
def k0_dev56 (d0 : Dev nD) : Nat :=
  let c0_i32_1893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c16_i32_1883 : BitVec 32 := 16#32
  let v1766 : BitVec 32 := Scalar.addi v7 c16_i32_1883
  let c32_i32_1884 : BitVec 32 := 32#32
  let v1767 : BitVec 32 := Scalar.remsi v1766 c32_i32_1884
  let v1768 : BitVec 32 := Scalar.addi v1767 v3
  let c1_i32_1892 : BitVec 32 := 1#32
  let v1769 : BitVec 32 := Scalar.muli v1768 c1_i32_1892
  let v1770 : BitVec 32 := Scalar.addi c0_i32_1893 v1769
  v1770.toNat
def k0_dev57 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c18_i32_1898 : BitVec 32 := 18#32
  let v1779 : BitVec 32 := Scalar.addi v7 c18_i32_1898
  let c32_i32_1899 : BitVec 32 := 32#32
  let v1780 : BitVec 32 := Scalar.remsi v1779 c32_i32_1899
  let v1781 : BitVec 32 := Scalar.addi v1780 v3
  let c1_i32_1907 : BitVec 32 := 1#32
  let v1782 : BitVec 32 := Scalar.muli v1781 c1_i32_1907
  let v1783 : BitVec 32 := Scalar.addi c0_i32_1908 v1782
  v1783.toNat
def k0_dev58 (d0 : Dev nD) : Nat :=
  let c0_i32_1923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c20_i32_1913 : BitVec 32 := 20#32
  let v1792 : BitVec 32 := Scalar.addi v7 c20_i32_1913
  let c32_i32_1914 : BitVec 32 := 32#32
  let v1793 : BitVec 32 := Scalar.remsi v1792 c32_i32_1914
  let v1794 : BitVec 32 := Scalar.addi v1793 v3
  let c1_i32_1922 : BitVec 32 := 1#32
  let v1795 : BitVec 32 := Scalar.muli v1794 c1_i32_1922
  let v1796 : BitVec 32 := Scalar.addi c0_i32_1923 v1795
  v1796.toNat
def k0_dev59 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c22_i32_1928 : BitVec 32 := 22#32
  let v1805 : BitVec 32 := Scalar.addi v7 c22_i32_1928
  let c32_i32_1929 : BitVec 32 := 32#32
  let v1806 : BitVec 32 := Scalar.remsi v1805 c32_i32_1929
  let v1807 : BitVec 32 := Scalar.addi v1806 v3
  let c1_i32_1937 : BitVec 32 := 1#32
  let v1808 : BitVec 32 := Scalar.muli v1807 c1_i32_1937
  let v1809 : BitVec 32 := Scalar.addi c0_i32_1938 v1808
  v1809.toNat
def k0_dev60 (d0 : Dev nD) : Nat :=
  let c0_i32_1953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c24_i32_1943 : BitVec 32 := 24#32
  let v1818 : BitVec 32 := Scalar.addi v7 c24_i32_1943
  let c32_i32_1944 : BitVec 32 := 32#32
  let v1819 : BitVec 32 := Scalar.remsi v1818 c32_i32_1944
  let v1820 : BitVec 32 := Scalar.addi v1819 v3
  let c1_i32_1952 : BitVec 32 := 1#32
  let v1821 : BitVec 32 := Scalar.muli v1820 c1_i32_1952
  let v1822 : BitVec 32 := Scalar.addi c0_i32_1953 v1821
  v1822.toNat
def k0_dev61 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c26_i32_1958 : BitVec 32 := 26#32
  let v1831 : BitVec 32 := Scalar.addi v7 c26_i32_1958
  let c32_i32_1959 : BitVec 32 := 32#32
  let v1832 : BitVec 32 := Scalar.remsi v1831 c32_i32_1959
  let v1833 : BitVec 32 := Scalar.addi v1832 v3
  let c1_i32_1967 : BitVec 32 := 1#32
  let v1834 : BitVec 32 := Scalar.muli v1833 c1_i32_1967
  let v1835 : BitVec 32 := Scalar.addi c0_i32_1968 v1834
  v1835.toNat
def k0_dev62 (d0 : Dev nD) : Nat :=
  let c0_i32_1983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c28_i32_1973 : BitVec 32 := 28#32
  let v1844 : BitVec 32 := Scalar.addi v7 c28_i32_1973
  let c32_i32_1974 : BitVec 32 := 32#32
  let v1845 : BitVec 32 := Scalar.remsi v1844 c32_i32_1974
  let v1846 : BitVec 32 := Scalar.addi v1845 v3
  let c1_i32_1982 : BitVec 32 := 1#32
  let v1847 : BitVec 32 := Scalar.muli v1846 c1_i32_1982
  let v1848 : BitVec 32 := Scalar.addi c0_i32_1983 v1847
  v1848.toNat
def k0_dev63 (d0 : Dev nD) : Nat :=
  let c0_i32_1998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c30_i32_1988 : BitVec 32 := 30#32
  let v1857 : BitVec 32 := Scalar.addi v7 c30_i32_1988
  let c32_i32_1989 : BitVec 32 := 32#32
  let v1858 : BitVec 32 := Scalar.remsi v1857 c32_i32_1989
  let v1859 : BitVec 32 := Scalar.addi v1858 v3
  let c1_i32_1997 : BitVec 32 := 1#32
  let v1860 : BitVec 32 := Scalar.muli v1859 c1_i32_1997
  let v1861 : BitVec 32 := Scalar.addi c0_i32_1998 v1860
  v1861.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2281 : BitVec 32 := 32#32
  let v2065 : BitVec 32 := Scalar.muli v2 c32_i32_2281
  let v2066 : Index := Scalar.indexCast v2065
  let c512_2282 : Index := 512#32
  ![v2066.toNat, 512]
def k0_dev64 (d0 : Dev nD) : Nat :=
  let c0_i32_2303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c2_i32_2293 : BitVec 32 := 2#32
  let v2077 : BitVec 32 := Scalar.addi v7 c2_i32_2293
  let c32_i32_2294 : BitVec 32 := 32#32
  let v2078 : BitVec 32 := Scalar.remsi v2077 c32_i32_2294
  let v2079 : BitVec 32 := Scalar.addi v2078 v3
  let c1_i32_2302 : BitVec 32 := 1#32
  let v2080 : BitVec 32 := Scalar.muli v2079 c1_i32_2302
  let v2081 : BitVec 32 := Scalar.addi c0_i32_2303 v2080
  v2081.toNat
def k0_dev65 (d0 : Dev nD) : Nat :=
  let c0_i32_2318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c4_i32_2308 : BitVec 32 := 4#32
  let v2090 : BitVec 32 := Scalar.addi v7 c4_i32_2308
  let c32_i32_2309 : BitVec 32 := 32#32
  let v2091 : BitVec 32 := Scalar.remsi v2090 c32_i32_2309
  let v2092 : BitVec 32 := Scalar.addi v2091 v3
  let c1_i32_2317 : BitVec 32 := 1#32
  let v2093 : BitVec 32 := Scalar.muli v2092 c1_i32_2317
  let v2094 : BitVec 32 := Scalar.addi c0_i32_2318 v2093
  v2094.toNat
def k0_dev66 (d0 : Dev nD) : Nat :=
  let c0_i32_2333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c6_i32_2323 : BitVec 32 := 6#32
  let v2103 : BitVec 32 := Scalar.addi v7 c6_i32_2323
  let c32_i32_2324 : BitVec 32 := 32#32
  let v2104 : BitVec 32 := Scalar.remsi v2103 c32_i32_2324
  let v2105 : BitVec 32 := Scalar.addi v2104 v3
  let c1_i32_2332 : BitVec 32 := 1#32
  let v2106 : BitVec 32 := Scalar.muli v2105 c1_i32_2332
  let v2107 : BitVec 32 := Scalar.addi c0_i32_2333 v2106
  v2107.toNat
def k0_dev67 (d0 : Dev nD) : Nat :=
  let c0_i32_2348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c8_i32_2338 : BitVec 32 := 8#32
  let v2116 : BitVec 32 := Scalar.addi v7 c8_i32_2338
  let c32_i32_2339 : BitVec 32 := 32#32
  let v2117 : BitVec 32 := Scalar.remsi v2116 c32_i32_2339
  let v2118 : BitVec 32 := Scalar.addi v2117 v3
  let c1_i32_2347 : BitVec 32 := 1#32
  let v2119 : BitVec 32 := Scalar.muli v2118 c1_i32_2347
  let v2120 : BitVec 32 := Scalar.addi c0_i32_2348 v2119
  v2120.toNat
def k0_dev68 (d0 : Dev nD) : Nat :=
  let c0_i32_2363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c10_i32_2353 : BitVec 32 := 10#32
  let v2129 : BitVec 32 := Scalar.addi v7 c10_i32_2353
  let c32_i32_2354 : BitVec 32 := 32#32
  let v2130 : BitVec 32 := Scalar.remsi v2129 c32_i32_2354
  let v2131 : BitVec 32 := Scalar.addi v2130 v3
  let c1_i32_2362 : BitVec 32 := 1#32
  let v2132 : BitVec 32 := Scalar.muli v2131 c1_i32_2362
  let v2133 : BitVec 32 := Scalar.addi c0_i32_2363 v2132
  v2133.toNat
def k0_dev69 (d0 : Dev nD) : Nat :=
  let c0_i32_2378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c12_i32_2368 : BitVec 32 := 12#32
  let v2142 : BitVec 32 := Scalar.addi v7 c12_i32_2368
  let c32_i32_2369 : BitVec 32 := 32#32
  let v2143 : BitVec 32 := Scalar.remsi v2142 c32_i32_2369
  let v2144 : BitVec 32 := Scalar.addi v2143 v3
  let c1_i32_2377 : BitVec 32 := 1#32
  let v2145 : BitVec 32 := Scalar.muli v2144 c1_i32_2377
  let v2146 : BitVec 32 := Scalar.addi c0_i32_2378 v2145
  v2146.toNat
def k0_dev70 (d0 : Dev nD) : Nat :=
  let c0_i32_2393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c14_i32_2383 : BitVec 32 := 14#32
  let v2155 : BitVec 32 := Scalar.addi v7 c14_i32_2383
  let c32_i32_2384 : BitVec 32 := 32#32
  let v2156 : BitVec 32 := Scalar.remsi v2155 c32_i32_2384
  let v2157 : BitVec 32 := Scalar.addi v2156 v3
  let c1_i32_2392 : BitVec 32 := 1#32
  let v2158 : BitVec 32 := Scalar.muli v2157 c1_i32_2392
  let v2159 : BitVec 32 := Scalar.addi c0_i32_2393 v2158
  v2159.toNat
def k0_dev71 (d0 : Dev nD) : Nat :=
  let c0_i32_2408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c16_i32_2398 : BitVec 32 := 16#32
  let v2168 : BitVec 32 := Scalar.addi v7 c16_i32_2398
  let c32_i32_2399 : BitVec 32 := 32#32
  let v2169 : BitVec 32 := Scalar.remsi v2168 c32_i32_2399
  let v2170 : BitVec 32 := Scalar.addi v2169 v3
  let c1_i32_2407 : BitVec 32 := 1#32
  let v2171 : BitVec 32 := Scalar.muli v2170 c1_i32_2407
  let v2172 : BitVec 32 := Scalar.addi c0_i32_2408 v2171
  v2172.toNat
def k0_dev72 (d0 : Dev nD) : Nat :=
  let c0_i32_2423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c18_i32_2413 : BitVec 32 := 18#32
  let v2181 : BitVec 32 := Scalar.addi v7 c18_i32_2413
  let c32_i32_2414 : BitVec 32 := 32#32
  let v2182 : BitVec 32 := Scalar.remsi v2181 c32_i32_2414
  let v2183 : BitVec 32 := Scalar.addi v2182 v3
  let c1_i32_2422 : BitVec 32 := 1#32
  let v2184 : BitVec 32 := Scalar.muli v2183 c1_i32_2422
  let v2185 : BitVec 32 := Scalar.addi c0_i32_2423 v2184
  v2185.toNat
def k0_dev73 (d0 : Dev nD) : Nat :=
  let c0_i32_2438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c20_i32_2428 : BitVec 32 := 20#32
  let v2194 : BitVec 32 := Scalar.addi v7 c20_i32_2428
  let c32_i32_2429 : BitVec 32 := 32#32
  let v2195 : BitVec 32 := Scalar.remsi v2194 c32_i32_2429
  let v2196 : BitVec 32 := Scalar.addi v2195 v3
  let c1_i32_2437 : BitVec 32 := 1#32
  let v2197 : BitVec 32 := Scalar.muli v2196 c1_i32_2437
  let v2198 : BitVec 32 := Scalar.addi c0_i32_2438 v2197
  v2198.toNat
def k0_dev74 (d0 : Dev nD) : Nat :=
  let c0_i32_2453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c22_i32_2443 : BitVec 32 := 22#32
  let v2207 : BitVec 32 := Scalar.addi v7 c22_i32_2443
  let c32_i32_2444 : BitVec 32 := 32#32
  let v2208 : BitVec 32 := Scalar.remsi v2207 c32_i32_2444
  let v2209 : BitVec 32 := Scalar.addi v2208 v3
  let c1_i32_2452 : BitVec 32 := 1#32
  let v2210 : BitVec 32 := Scalar.muli v2209 c1_i32_2452
  let v2211 : BitVec 32 := Scalar.addi c0_i32_2453 v2210
  v2211.toNat
def k0_dev75 (d0 : Dev nD) : Nat :=
  let c0_i32_2468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c24_i32_2458 : BitVec 32 := 24#32
  let v2220 : BitVec 32 := Scalar.addi v7 c24_i32_2458
  let c32_i32_2459 : BitVec 32 := 32#32
  let v2221 : BitVec 32 := Scalar.remsi v2220 c32_i32_2459
  let v2222 : BitVec 32 := Scalar.addi v2221 v3
  let c1_i32_2467 : BitVec 32 := 1#32
  let v2223 : BitVec 32 := Scalar.muli v2222 c1_i32_2467
  let v2224 : BitVec 32 := Scalar.addi c0_i32_2468 v2223
  v2224.toNat
def k0_dev76 (d0 : Dev nD) : Nat :=
  let c0_i32_2483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c26_i32_2473 : BitVec 32 := 26#32
  let v2233 : BitVec 32 := Scalar.addi v7 c26_i32_2473
  let c32_i32_2474 : BitVec 32 := 32#32
  let v2234 : BitVec 32 := Scalar.remsi v2233 c32_i32_2474
  let v2235 : BitVec 32 := Scalar.addi v2234 v3
  let c1_i32_2482 : BitVec 32 := 1#32
  let v2236 : BitVec 32 := Scalar.muli v2235 c1_i32_2482
  let v2237 : BitVec 32 := Scalar.addi c0_i32_2483 v2236
  v2237.toNat
def k0_dev77 (d0 : Dev nD) : Nat :=
  let c0_i32_2498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c28_i32_2488 : BitVec 32 := 28#32
  let v2246 : BitVec 32 := Scalar.addi v7 c28_i32_2488
  let c32_i32_2489 : BitVec 32 := 32#32
  let v2247 : BitVec 32 := Scalar.remsi v2246 c32_i32_2489
  let v2248 : BitVec 32 := Scalar.addi v2247 v3
  let c1_i32_2497 : BitVec 32 := 1#32
  let v2249 : BitVec 32 := Scalar.muli v2248 c1_i32_2497
  let v2250 : BitVec 32 := Scalar.addi c0_i32_2498 v2249
  v2250.toNat
def k0_dev78 (d0 : Dev nD) : Nat :=
  let c0_i32_2513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c30_i32_2503 : BitVec 32 := 30#32
  let v2259 : BitVec 32 := Scalar.addi v7 c30_i32_2503
  let c32_i32_2504 : BitVec 32 := 32#32
  let v2260 : BitVec 32 := Scalar.remsi v2259 c32_i32_2504
  let v2261 : BitVec 32 := Scalar.addi v2260 v3
  let c1_i32_2512 : BitVec 32 := 1#32
  let v2262 : BitVec 32 := Scalar.muli v2261 c1_i32_2512
  let v2263 : BitVec 32 := Scalar.addi c0_i32_2513 v2262
  v2263.toNat
def k0_dev79 (d0 : Dev nD) : Nat :=
  let c0_i32_2838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_2837 : BitVec 32 := 1#32
  let v2527 : BitVec 32 := Scalar.muli v6 c1_i32_2837
  let v2528 : BitVec 32 := Scalar.addi c0_i32_2838 v2527
  v2528.toNat
def k0_dev80 (d0 : Dev nD) : Nat :=
  let c0_i32_3165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_3164 : BitVec 32 := 1#32
  let v2792 : BitVec 32 := Scalar.muli v6 c1_i32_3164
  let v2793 : BitVec 32 := Scalar.addi c0_i32_3165 v2792
  v2793.toNat
abbrev stage0_0 : Fin 1 → Memref sig .tc .vmem S1024x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Structured.lean ====
/- The kernel body written as loops. The printed body is one long run of memory operations: every loop of the
   kernel is unrolled. Here the same operations are arranged as loops over the two column halves `w` and the
   sixteen slots `e`, and `body_eq` says that the printed body is this program. -/
module

public import proofs.«01_k».proof.Proof.Gen.KernelIdeal.Points
public import proofs.«01_k».proof.Proof.Gen.KernelIdeal.Skeleton
public import Idealize.ShloMosaic.Lib.Pipeline.Regions

@[expose] public section

noncomputable section

namespace Cert.KernelIdeal.Gelu

open Idealize.ShloMosaic Idealize.SL.Sem Cert.KernelIdeal Cert.KernelIdeal.Gen

variable {F : FTy → Type} [FloatOps F]

/-- A program of this signature. -/
abbrev P (F : FTy → Type) [FloatOps F] (α : Type) := Prog (TpuEff nD τ sig (Elt F) Λ₀ .tc) α

/-- Run `f` on the members of a list, in order. -/
def forL {α : Type} : List α → (α → P F PUnit) → P F PUnit
  | [], _ => pure ⟨⟩
  | a :: l, f => f a >>= fun _ => forL l f

/-- Run `f` on the members of a list, in order, carrying a value. -/
def foldL {α β : Type} : List α → (β → α → P F β) → β → P F β
  | [], _, b => pure b
  | a :: l, f, b => f b a >>= fun b' => foldL l f b'

/-- The two halves of the columns. -/
abbrev ws : List (Fin 2) := [⟨0, by decide⟩, ⟨1, by decide⟩]
/-- The slots one to fifteen. -/
abbrev es15 : List (Fin 16) :=
  [⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩,
   ⟨15, by decide⟩]
/-- All sixteen slots. -/
abbrev es16 : List (Fin 16) := ⟨0, by decide⟩ :: es15

/-- The slot the transfer `d` lands in on its receiver. -/
abbrev opp (d : Fin 16) : Fin 16 := ⟨(16 - d.val) % 16, Nat.mod_lt _ (by decide)⟩

/-! ## The buffers -/

abbrev mX : Memref sig .tc .vmem S1024x32 .bf16 := Memref.whole cc0_stg0_0
abbrev mW : Memref sig .tc .vmem S32x1024 .bf16 := Memref.whole cc0_stg1_0
abbrev mOut : Memref sig .tc .vmem S1024x1024 .f32 := Memref.whole cc0_stg2_0
abbrev mPart : Memref sig .tc .vmem S1024x1024 .f32 := Memref.whole cc0_scratch0
abbrev mXs : Memref sig .tc .vmem S2x16x32x512 .bf16 := Memref.whole cc0_scratch1
abbrev mXr : Memref sig .tc .vmem S2x16x32x512 .bf16 := Memref.whole cc0_scratch2
abbrev mCmb : Memref sig .tc .vmem S2x16x32x512 .f32 := Memref.whole cc0_scratch3
abbrev mS1b : Memref sig .tc .vmem S2x16x32x512 .bf16 := Memref.whole cc0_scratch4
abbrev mR1b : Memref sig .tc .vmem S2x16x32x512 .bf16 := Memref.whole cc0_scratch5
abbrev mGs : Memref sig .tc .vmem S2x32x512 .bf16 := Memref.whole cc0_scratch6
abbrev mFb : Memref sig .tc .vmem S2x16x32x512 .bf16 := Memref.whole cc0_scratch7
abbrev mPb : Memref sig .tc .vmem S2x16x32x512 .bf16 := Memref.whole cc0_scratch8

/-! ## Slots, slabs and the semaphores -/

theorem inb_slot : ∀ (w : Fin 2) (e : Fin 16), ∀ a, (![w.val, e.val, 0, 0] : Fin 4 → Nat) a + S1x1x32x512.size a ≤ S2x16x32x512.size a := by decide
theorem inb_slab : ∀ (w : Fin 2), ∀ a, (![w.val, 0, 0, 0] : Fin 4 → Nat) a + S1x16x32x512.size a ≤ S2x16x32x512.size a := by decide
theorem inb_half : ∀ (w : Fin 2), ∀ a, (![w.val, 0, 0] : Fin 3 → Nat) a + S1x32x512.size a ≤ S2x32x512.size a := by decide
theorem inb_sem2 : ∀ (w : Fin 2), ∀ a, (![w.val] : Fin 1 → Nat) a + S1.size a ≤ S2.size a := by decide
theorem inb_sem216 : ∀ (w : Fin 2) (e : Fin 16), ∀ a, (![w.val, e.val] : Fin 2 → Nat) a + S1x1.size a ≤ S2x16.size a := by decide

/-- The entry `(w, e)` of a buffer of thirty-two blocks. -/
abbrev rSlot (w : Fin 2) (e : Fin 16) : Rect S2x16x32x512 := Rect.unit (s := S2x16x32x512) ![w.val, e.val, 0, 0] S1x1x32x512.size (inb_slot w e)
/-- The sixteen entries of the half `w`. -/
abbrev rSlab (w : Fin 2) : Rect S2x16x32x512 := Rect.unit (s := S2x16x32x512) ![w.val, 0, 0, 0] S1x16x32x512.size (inb_slab w)
/-- The half `w` of the buffer of two blocks. -/
abbrev rHalf (w : Fin 2) : Rect S2x32x512 := Rect.unit (s := S2x32x512) ![w.val, 0, 0] S1x32x512.size (inb_half w)

theorem slot_packed : ∀ (w : Fin 2) (e : Fin 16), (rSlot w e).PackedRows (EltTy.packing .bf16) := by decide
theorem slot_words : ∀ (w : Fin 2) (e : Fin 16), (rSlot w e).WholeWords (EltTy.packing .bf16) := by decide
theorem slab_words : ∀ (w : Fin 2), (rSlab w).WholeWords (EltTy.packing .bf16) := by decide
theorem half_packed : ∀ (w : Fin 2), (rHalf w).PackedRows (EltTy.packing .bf16) := by decide
theorem half_words : ∀ (w : Fin 2), (rHalf w).WholeWords (EltTy.packing .bf16) := by decide

abbrev slot (m : Memref sig .tc .vmem S2x16x32x512 .bf16) (w : Fin 2) (e : Fin 16) : Memref sig .tc .vmem S32x512 .bf16 :=
  (m.slice (rSlot w e) (fun _ => rfl)).squeeze S32x512 squeezes_S1x1x32x512_S32x512
abbrev slab (m : Memref sig .tc .vmem S2x16x32x512 .bf16) (w : Fin 2) : Memref sig .tc .vmem S16x32x512 .bf16 :=
  (m.slice (rSlab w) (fun _ => rfl)).squeeze S16x32x512 squeezes_S1x16x32x512_S16x32x512
abbrev half (m : Memref sig .tc .vmem S2x32x512 .bf16) (w : Fin 2) : Memref sig .tc .vmem S32x512 .bf16 :=
  (m.slice (rHalf w) (fun _ => rfl)).squeeze S32x512 squeezes_S1x32x512_S32x512

theorem slot_exact {m : Memref sig .tc .vmem S2x16x32x512 .bf16} (h : m.IsWhole) (w : Fin 2) (e : Fin 16) : (slot m w e).view.WordExact :=
  (h.wordExact_slice rfl _ (slot_words w e)).reshape _ _
theorem slab_exact {m : Memref sig .tc .vmem S2x16x32x512 .bf16} (h : m.IsWhole) (w : Fin 2) : (slab m w).view.WordExact :=
  (h.wordExact_slice rfl _ (slab_words w)).reshape _ _
theorem half_exact {m : Memref sig .tc .vmem S2x32x512 .bf16} (h : m.IsWhole) (w : Fin 2) : (half m w).view.WordExact :=
  (h.wordExact_slice rfl _ (half_words w)).reshape _ _

abbrev sem2 (a : DmaSems sig S2) (w : Fin 2) : DmaSem sig :=
  ((a.slice (Rect.unit (s := S2) ![w.val] S1.size (inb_sem2 w))).squeeze S_ squeezes_S1_S_).sem
abbrev sem216 (a : DmaSems sig S2x16) (w : Fin 2) (e : Fin 16) : DmaSem sig :=
  ((a.slice (Rect.unit (s := S2x16) ![w.val, e.val] S1x1.size (inb_sem216 w e))).squeeze S_ squeezes_S1x1_S_).sem

/-! ## The devices addressed -/

/-- The word the kernel adds to its device number to reach slot `e`. -/
abbrev stepW (e : Fin 16) : BitVec 32 := BitVec.ofNat 32 (2 * e.val)

/-- The device number of the member at distance `e` of the device's own group, as the kernel computes it. -/
def mineNat (d0 : Dev nD) (s : BitVec 32) : Nat :=
  let v2 : BitVec 32 := Scalar.remsi (Scalar.divsi (Dev.word d0) 1#32) 32#32
  let v3 : BitVec 32 := Scalar.remsi v2 2#32
  let v7 : BitVec 32 := Scalar.subi v2 v3
  (Scalar.addi 0#32 (Scalar.muli (Scalar.addi (Scalar.remsi (Scalar.addi v7 s) 32#32) v3) 1#32)).toNat

theorem mineNat_lt : ∀ (d0 : Dev nD) (e : Fin 16), mineNat d0 (stepW e) < nD := by decide +kernel

abbrev partnerD (d0 : Dev nD) : Dev nD := ⟨k0_dev1 d0, k0_dev1_lt d0⟩
abbrev mineD (d0 : Dev nD) (e : Fin 16) : Dev nD := ⟨mineNat d0 (stepW e), mineNat_lt d0 e⟩

/-! ## Rows of the product and of the result -/

/-- The block of the partner group's member at distance `e`, its half `w`. -/
def pOff (d0 : Dev nD) : Fin 2 → Fin 16 → Fin 2 → Nat
  | ⟨0, _⟩, e => k0_off1 d0 (stepW e)
  | ⟨_ + 1, _⟩, e => k0_off2 d0 (stepW e)
/-- The block of the own group's member at distance `e`, its half `w`. -/
def mOff (d0 : Dev nD) : Fin 2 → Fin 16 → Fin 2 → Nat
  | ⟨0, _⟩, e => k0_off3 d0 (stepW e)
  | ⟨_ + 1, _⟩, e => k0_off4 d0 (stepW e)
/-- The device's own block, its half `w`. -/
def oOff (d0 : Dev nD) : Fin 2 → Fin 2 → Nat
  | ⟨0, _⟩ => k0_off5 d0
  | ⟨_ + 1, _⟩ => k0_off6 d0

theorem pOff_inb (d0 : Dev nD) : ∀ (w : Fin 2) (e : Fin 16), ∀ a, pOff d0 w e a + S32x512.size a ≤ S1024x1024.size a
  | ⟨0, _⟩, e => k0_off1_inb d0 e
  | ⟨_ + 1, _⟩, e => k0_off2_inb d0 e
theorem mOff_inb (d0 : Dev nD) : ∀ (w : Fin 2) (e : Fin 16), ∀ a, mOff d0 w e a + S32x512.size a ≤ S1024x1024.size a
  | ⟨0, _⟩, e => k0_off3_inb d0 e
  | ⟨_ + 1, _⟩, e => k0_off4_inb d0 e
theorem oOff_inb (d0 : Dev nD) : ∀ (w : Fin 2), ∀ a, oOff d0 w a + S32x512.size a ≤ S1024x1024.size a
  | ⟨0, _⟩ => k0_off5_inb d0
  | ⟨_ + 1, _⟩ => k0_off6_inb d0

/-! ## The operations -/

abbrev ldSlot {e' : EltTy} (m : Memref sig .tc .vmem S2x16x32x512 e') (w : Fin 2) (e : Fin 16) : P F (Vec F S1x1x32x512 e') :=
  Prog.lift (.load m (rSlot w e).toLoadRect (View.loadsAt_vmem h_S1x1x32x512))
abbrev stSlot16 (m : Memref sig .tc .vmem S2x16x32x512 .bf16) (h : m.IsWhole) (w : Fin 2) (e : Fin 16) (v : FVec F S1x1x32x512 .bf16) : P F PUnit :=
  Prog.lift (.store m (rSlot w e) v Finset.univ
    (View.stores_vmem h_S1x1x32x512 (h.storeExact_slice rfl _ (slot_packed w e)) (fun _ => rfl)) (.inl rfl))
abbrev stSlot32 (m : Memref sig .tc .vmem S2x16x32x512 .f32) (w : Fin 2) (e : Fin 16) (v : FVec F S1x1x32x512 .f32) : P F PUnit :=
  Prog.lift (.store m (rSlot w e) v Finset.univ (View.stores_vmem_bits_univ h_S1x1x32x512 rfl) (.inl rfl))
abbrev ldHalf (m : Memref sig .tc .vmem S2x32x512 .bf16) (w : Fin 2) : P F (Vec F S1x32x512 .bf16) :=
  Prog.lift (.load m (rHalf w).toLoadRect (View.loadsAt_vmem h_S1x32x512))
abbrev stHalf (m : Memref sig .tc .vmem S2x32x512 .bf16) (h : m.IsWhole) (w : Fin 2) (v : FVec F S1x32x512 .bf16) : P F PUnit :=
  Prog.lift (.store m (rHalf w) v Finset.univ
    (View.stores_vmem h_S1x32x512 (h.storeExact_slice rfl _ (half_packed w)) (fun _ => rfl)) (.inl rfl))
abbrev ldRows (m : Memref sig .tc .vmem S1024x1024 .f32) (off : Fin 2 → Nat) (inb : ∀ a, off a + S32x512.size a ≤ S1024x1024.size a) : P F (Vec F S32x512 .f32) :=
  Prog.lift (.load m (Rect.unit (s := S1024x1024) off S32x512.size inb).toLoadRect (View.loadsAt_vmem h_S32x512))
abbrev stRows (m : Memref sig .tc .vmem S1024x1024 .f32) (off : Fin 2 → Nat) (inb : ∀ a, off a + S32x512.size a ≤ S1024x1024.size a) (v : FVec F S32x512 .f32) : P F PUnit :=
  Prog.lift (.store m (Rect.unit (s := S1024x1024) off S32x512.size inb) v Finset.univ (View.stores_vmem_bits_univ h_S32x512 rfl) (.inl rfl))

/-- Send a memref to one of device `d`'s. -/
abbrev send {s : Shape} (src dst : Memref sig .tc .vmem s .bf16) (hs : src.view.WordExact) (hd : dst.view.WordExact)
    (d : Dev nD) (ss rs : DmaSem sig) : P F PUnit :=
  Prog.lift (.enqueueDma src (.remote (Dev.tc d) dst (.dma ss)) (.dma rs) hs hd ⟨⟨rfl, Or.inl rfl⟩, trivial⟩)
abbrev wait {s s' : Shape} (src : Memref sig .tc .vmem s .bf16) (dst : Memref sig .tc .vmem s' .bf16) (hs : src.view.WordExact) (hd : dst.view.WordExact)
    (ss : DmaSem sig) : P F PUnit :=
  Prog.lift (.waitDma2 ss src dst hs hd)

/-! ## The values stored -/

/-- A block rounded to bf16. -/
abbrev toB (v : Vec F S32x512 .f32) : FVec F S1x1x32x512 .bf16 :=
  shapeCast S1x1x32x512 (truncf .bf16 v bitsLt_bf16_f32) shapeCasts_S32x512_S1x1x32x512
/-- A bf16 block read at f32. -/
abbrev ofB (v : Vec F S1x1x32x512 .bf16) : FVec F S32x512 .f32 :=
  extf .f32 (shapeCast S32x512 v shapeCasts_S1x1x32x512_S32x512) bitsLt_bf16_f32
/-- A block of the product added to the partner's. -/
abbrev comb (v : Vec F S32x512 .f32) (u : Vec F S1x1x32x512 .bf16) : FVec F S1x1x32x512 .f32 :=
  shapeCast S1x1x32x512 (addf v (ofB u)) shapeCasts_S32x512_S1x1x32x512
/-- A combined block rounded to bf16. -/
abbrev cToB (v : Vec F S1x1x32x512 .f32) : FVec F S1x1x32x512 .bf16 :=
  toB (shapeCast S32x512 v shapeCasts_S1x1x32x512_S32x512)
/-- The kernel's gelu. -/
def geluV (y : FVec F S32x512 .f32) : FVec F S32x512 .f32 :=
  mulf (mulf (broadcast S32x512 (Scalar.ofBits .f32 0x3F000000#32)) y)
    (addf (broadcast S32x512 (Scalar.ofBits .f32 0x3F800000#32))
      (tanh (mulf (broadcast S32x512 (Scalar.ofBits .f32 0x3F4C422A#32))
        (addf y (mulf (mulf (mulf (broadcast S32x512 (Scalar.ofBits .f32 0x3D372713#32)) y) y) y)))))
/-- A finished block rounded to bf16. -/
abbrev gToB (g : FVec F S32x512 .f32) : FVec F S1x32x512 .bf16 :=
  shapeCast S1x32x512 (truncf .bf16 g bitsLt_bf16_f32) shapeCasts_S32x512_S1x32x512
/-- The finished block at a slot's shape. -/
abbrev hToS (v : Vec F S1x32x512 .bf16) : FVec F S1x1x32x512 .bf16 :=
  shapeCast S1x1x32x512 (shapeCast S32x512 v shapeCasts_S1x32x512_S32x512) shapeCasts_S32x512_S1x1x32x512

/-! ## The phases -/

/-- The device's own part of the product. -/
def mulPhase : P F PUnit := do
  let x : Vec F S1024x32 .bf16 ← Prog.lift (.load mX (Rect.unit (s := S1024x32) ![0, 0] S1024x32.size inb_S1024x32_S1024x32_0_0).toLoadRect (View.loadsAt_vmem h_S1024x32))
  let w : Vec F S32x1024 .bf16 ← Prog.lift (.load mW (Rect.unit (s := S32x1024) ![0, 0] S32x1024.size inb_S32x1024_S32x1024_0_0).toLoadRect (View.loadsAt_vmem h_S32x1024))
  let _ : Vec F S1024x1024 .f32 ← Prog.lift (.load mPart (Rect.unit (s := S1024x1024) ![0, 0] S1024x1024.size inb_S1024x1024_S1024x1024_0_0).toLoadRect (View.loadsAt_vmem h_S1024x1024))
  Prog.lift (.store mPart (Rect.unit (s := S1024x1024) ![0, 0] S1024x1024.size inb_S1024x1024_S1024x1024_0_0) (k0_pay1 x w) Finset.univ (View.stores_vmem_bits_univ h_S1024x1024 rfl) (.inl rfl))

/-- Copy one of the partner's blocks into the buffer sent to it. -/
def xsStep (d0 : Dev nD) (w : Fin 2) (e : Fin 16) : P F PUnit := do
  let v ← ldRows mPart (pOff d0 w e) (pOff_inb d0 w e)
  let _ ← ldSlot mXs w e
  stSlot16 mXs (Memref.isWhole_whole _) w e (toB v)

def sigStep (d : Dev nD) : P F PUnit := semSignalWord d (sig.barrier 0 rfl) 1#32

def xSend (d0 : Dev nD) (w : Fin 2) : P F PUnit :=
  send (slab mXs w) (slab mXr w) (slab_exact (Memref.isWhole_whole _) w) (slab_exact (Memref.isWhole_whole _) w) (partnerD d0) (sem2 cc0_scratch9 w) (sem2 cc0_scratch10 w)
def xWait (w : Fin 2) : P F PUnit :=
  wait (slab mXs w) (slab mXr w) (slab_exact (Memref.isWhole_whole _) w) (slab_exact (Memref.isWhole_whole _) w) (sem2 cc0_scratch10 w)

/-- Add the partner's part of one block. -/
def combStep (d0 : Dev nD) (w : Fin 2) (e : Fin 16) : P F PUnit := do
  let v ← ldRows mPart (mOff d0 w e) (mOff_inb d0 w e)
  let u ← ldSlot mXr w e
  let _ ← ldSlot mCmb w e
  stSlot32 mCmb w e (comb v u)

/-- Send one combined block to the device it belongs to. -/
def sStep (d0 : Dev nD) (w : Fin 2) (d : Fin 16) : P F PUnit := do
  let v ← ldSlot mCmb w d
  let _ ← ldSlot mS1b w d
  stSlot16 mS1b (Memref.isWhole_whole _) w d (cToB v)
  send (slot mS1b w d) (slot mR1b w (opp d)) (slot_exact (Memref.isWhole_whole _) w d) (slot_exact (Memref.isWhole_whole _) w (opp d)) (mineD d0 d)
    (sem216 cc0_scratch11 w d) (sem216 cc0_scratch12 w (opp d))

def phase1 (d0 : Dev nD) (w : Fin 2) : P F PUnit := do
  xWait w
  forL es16 (combStep d0 w)
  forL es15 (sStep d0 w)

/-- Add one received block to the running total. -/
def totStep (w : Fin 2) (t : FVec F S32x512 .f32) (j : Fin 16) : P F (FVec F S32x512 .f32) := do
  wait (slot mS1b w j) (slot mR1b w j) (slot_exact (Memref.isWhole_whole _) w j) (slot_exact (Memref.isWhole_whole _) w j) (sem216 cc0_scratch12 w j)
  let u ← ldSlot mR1b w j
  pure (addf t (ofB u))

/-- Send the finished block to one device of the group. -/
def gSend (d0 : Dev nD) (w : Fin 2) (d : Fin 16) : P F PUnit :=
  send (half mGs w) (slot mFb w (opp d)) (half_exact (Memref.isWhole_whole _) w) (slot_exact (Memref.isWhole_whole _) w (opp d)) (mineD d0 d)
    (sem216 cc0_scratch13 w d) (sem216 cc0_scratch14 w (opp d))

/-- Store the finished block in the result and in the buffers it is sent from. -/
def outStep (d0 : Dev nD) (w : Fin 2) (g : FVec F S32x512 .f32) : P F PUnit := do
  let _ ← ldRows mOut (oOff d0 w) (oOff_inb d0 w)
  stRows mOut (oOff d0 w) (oOff_inb d0 w) g
  let _ ← ldHalf mGs w
  stHalf mGs (Memref.isWhole_whole _) w (gToB g)
  let h ← ldHalf mGs w
  let _ ← ldSlot mFb w ⟨0, by decide⟩
  stSlot16 mFb (Memref.isWhole_whole _) w ⟨0, by decide⟩ (hToS h)

def phase2 (d0 : Dev nD) (w : Fin 2) : P F PUnit := do
  let v ← ldSlot mCmb w ⟨0, by decide⟩
  let t ← foldL es15 (totStep w) (shapeCast S32x512 v shapeCasts_S1x1x32x512_S32x512)
  outStep d0 w (geluV t)
  forL es15 (gSend d0 w)

/-- Receive one finished block of the group and store it in the result. -/
def recvStep (d0 : Dev nD) (w : Fin 2) (j : Fin 16) : P F PUnit := do
  wait (half mGs w) (slot mFb w j) (half_exact (Memref.isWhole_whole _) w) (slot_exact (Memref.isWhole_whole _) w j) (sem216 cc0_scratch14 w j)
  let u ← ldSlot mFb w j
  let _ ← ldRows mOut (mOff d0 w j) (mOff_inb d0 w j)
  stRows mOut (mOff d0 w j) (mOff_inb d0 w j) (ofB u)

def fSend (d0 : Dev nD) (w : Fin 2) : P F PUnit :=
  send (slab mFb w) (slab mPb w) (slab_exact (Memref.isWhole_whole _) w) (slab_exact (Memref.isWhole_whole _) w) (partnerD d0) (sem2 cc0_scratch15 w) (sem2 cc0_scratch16 w)

def phase3 (d0 : Dev nD) (w : Fin 2) : P F PUnit := do
  forL es15 (recvStep d0 w)
  fSend d0 w

/-- Store one of the partner group's finished blocks in the result. -/
def pOutStep (d0 : Dev nD) (w : Fin 2) (e : Fin 16) : P F PUnit := do
  let u ← ldSlot mPb w e
  let _ ← ldRows mOut (pOff d0 w e) (pOff_inb d0 w e)
  stRows mOut (pOff d0 w e) (pOff_inb d0 w e) (ofB u)

def phase4 (d0 : Dev nD) (w : Fin 2) : P F PUnit := do
  wait (slab mFb w) (slab mPb w) (slab_exact (Memref.isWhole_whole _) w) (slab_exact (Memref.isWhole_whole _) w) (sem2 cc0_scratch16 w)
  forL es16 (pOutStep d0 w)

def xDone (w : Fin 2) : P F PUnit :=
  wait (slab mXr w) (slab mXs w) (slab_exact (Memref.isWhole_whole _) w) (slab_exact (Memref.isWhole_whole _) w) (sem2 cc0_scratch9 w)
def sDone (w : Fin 2) (d : Fin 16) : P F PUnit :=
  wait (slot mR1b w (opp d)) (slot mS1b w d) (slot_exact (Memref.isWhole_whole _) w (opp d)) (slot_exact (Memref.isWhole_whole _) w d) (sem216 cc0_scratch11 w d)
def gDone (w : Fin 2) (d : Fin 16) : P F PUnit :=
  wait (slot mFb w (opp d)) (half mGs w) (slot_exact (Memref.isWhole_whole _) w (opp d)) (half_exact (Memref.isWhole_whole _) w) (sem216 cc0_scratch13 w d)
def fDone (w : Fin 2) : P F PUnit :=
  wait (slab mPb w) (slab mFb w) (slab_exact (Memref.isWhole_whole _) w) (slab_exact (Memref.isWhole_whole _) w) (sem2 cc0_scratch15 w)

/-- Every transfer the device sent has left. -/
def donePhase : P F PUnit := do
  forL ws xDone
  forL ws fun w => forL es15 (sDone w)
  forL ws fun w => forL es15 (gDone w)
  forL ws fDone

/-- The kernel body, as loops. -/
def prog : P F PUnit := do
  let d0 : Dev nD ← Prog.lift .deviceId
  mulPhase
  forL ws fun w => forL es16 (xsStep d0 w)
  sigStep (partnerD d0)
  forL es15 fun d => sigStep (mineD d0 d)
  semWaitWord (sig.barrier 0 rfl) 16#32
  forL ws (xSend d0)
  forL ws (phase1 d0)
  forL ws (phase2 d0)
  forL ws (phase3 d0)
  forL ws (phase4 d0)
  donePhase

/-- The printed body is the loops. -/
theorem body_eq : (cc0_body mX (Memref.isWhole_whole _) mW (Memref.isWhole_whole _) mOut (Memref.isWhole_whole _) mPart (Memref.isWhole_whole _)
    mXs (Memref.isWhole_whole _) mXr (Memref.isWhole_whole _) mCmb (Memref.isWhole_whole _) mS1b (Memref.isWhole_whole _)
    mR1b (Memref.isWhole_whole _) mGs (Memref.isWhole_whole _) mFb (Memref.isWhole_whole _) mPb (Memref.isWhole_whole _)
    cc0_scratch9 cc0_scratch10 cc0_scratch11 cc0_scratch12 cc0_scratch13 cc0_scratch14 cc0_scratch15 cc0_scratch16 : P F PUnit) = prog := by
  chain_rfl

end Cert.KernelIdeal.Gelu
-- ==== Proof.Maps.lean ====
/- The device maps of the kernel, and the blocks of rows it addresses. A device has one partner, in the other group, and
   reaches the sixteen members of its own group by a distance; the member at distance zero is itself. -/
module

public import proofs.«01_k».proof.Proof.Structured

@[expose] public section

noncomputable section

namespace Cert.KernelIdeal.Gelu

open Idealize.ShloMosaic Idealize.SL.Sem Cert.KernelIdeal Cert.KernelIdeal.Gen

/-- The device at distance `d` for the purpose of the first handshake: distance zero stands for the partner. -/
def tgtD (c : Dev nD) (d : Fin 16) : Dev nD := if d = 0 then partnerD c else mineD c d

theorem partner_partner : ∀ c : Dev nD, partnerD (partnerD c) = c := by decide +kernel
theorem mine_opp : ∀ (c : Dev nD) (d : Fin 16), mineD (mineD c d) (opp d) = c := by decide +kernel
theorem mine_zero : ∀ c : Dev nD, mineD c 0 = c := by decide +kernel
theorem partner_mine : ∀ (c : Dev nD) (e : Fin 16), mineD (partnerD c) e = partnerD (mineD c e) := by decide +kernel
theorem opp_opp : ∀ d : Fin 16, opp (opp d) = d := by decide
theorem opp_eq_zero : ∀ d : Fin 16, opp d = 0 ↔ d = 0 := by decide
theorem tgt_opp : ∀ (c : Dev nD) (d : Fin 16), tgtD (tgtD c d) (opp d) = c := by decide +kernel
theorem tgt_zero (c : Dev nD) : tgtD c 0 = partnerD c := if_pos rfl
theorem tgt_of_ne (c : Dev nD) {d : Fin 16} (h : d ≠ 0) : tgtD c d = mineD c d := if_neg h
theorem mine_ne : ∀ (c : Dev nD) (e : Fin 16), e ≠ 0 → mineD c e ≠ c := by decide +kernel
theorem partner_mine_ne : ∀ (c : Dev nD) (e : Fin 16), partnerD (mineD c e) ≠ c := by decide +kernel

theorem pOff_eq : ∀ (c : Dev nD) (w : Fin 2) (e : Fin 16) (a : Fin 2), pOff c w e a = (![32 * (partnerD (mineD c e)).val, 512 * w.val] : Fin 2 → Nat) a := by
  decide +kernel
theorem mOff_eq : ∀ (c : Dev nD) (w : Fin 2) (e : Fin 16) (a : Fin 2), mOff c w e a = (![32 * (mineD c e).val, 512 * w.val] : Fin 2 → Nat) a := by
  decide +kernel
theorem oOff_eq : ∀ (c : Dev nD) (w : Fin 2) (a : Fin 2), oOff c w a = (![32 * c.val, 512 * w.val] : Fin 2 → Nat) a := by
  decide +kernel

/-- Handing a token from its cell's device to the device that pays with it. -/
def around : Dev nD × Fin 16 ≃ Dev nD × Fin 16 where
  toFun x := (tgtD x.1 x.2, opp x.2)
  invFun x := (tgtD x.1 x.2, opp x.2)
  left_inv x := Prod.ext (tgt_opp x.1 x.2) (opp_opp x.2)
  right_inv x := Prod.ext (tgt_opp x.1 x.2) (opp_opp x.2)

/-- Partners, as a permutation of the devices. -/
def pairs : Dev nD ≃ Dev nD := ⟨fun c => partnerD c, fun c => partnerD c, partner_partner, partner_partner⟩

/-- The thirty-two devices: the own group by distance, and the partners of its members. -/
def groups (c : Dev nD) : Fin 16 ⊕ Fin 16 → Dev nD
  | .inl e => mineD c e
  | .inr e => partnerD (mineD c e)
theorem groups_bij : ∀ c : Dev nD, Function.Bijective (groups c) := by
  intro c
  rw [Fintype.bijective_iff_injective_and_card]
  exact ⟨by revert c; decide +kernel, by decide⟩
def groupsE (c : Dev nD) : Fin 16 ⊕ Fin 16 ≃ Dev nD := Equiv.ofBijective _ (groups_bij c)

end Cert.KernelIdeal.Gelu

end
-- ==== Proof.Contents.lean ====
/- What every buffer of every device holds when its phase is done, as functions of all the devices' operands. -/
module

public import proofs.«01_k».proof.Proof.Maps

@[expose] public section

noncomputable section

namespace Cert.KernelIdeal.Gelu

open Idealize.ShloMosaic Idealize.SL.Sem Cert.KernelIdeal Cert.KernelIdeal.Gen

variable {F : FTy → Type} [FloatOps F]

/-- A block of thirty-two rows and 512 columns of a square of values. -/
def rowsAt (V : Vec F S1024x1024 .f32) (off : Fin 2 → Nat) (inb : ∀ a, off a + S32x512.size a ≤ S1024x1024.size a) : Vec F S32x512 .f32 :=
  fun j => V ((Rect.unit (s := S1024x1024) off S32x512.size inb).emb j)

variable (X : Dev nD → Vec F S1024x32 .bf16) (W : Dev nD → Vec F S32x1024 .bf16)

/-- A device's part of the product. -/
def partV (c : Dev nD) : Vec F S1024x1024 .f32 := k0_pay1 (X c) (W c)
/-- The blocks a device sends its partner. -/
def xsV (c : Dev nD) (w : Fin 2) (e : Fin 16) : Vec F S1x1x32x512 .bf16 := toB (rowsAt (partV X W c) (pOff c w e) (pOff_inb c w e))
/-- The blocks it receives from its partner. -/
def xrV (c : Dev nD) (w : Fin 2) (e : Fin 16) : Vec F S1x1x32x512 .bf16 := xsV X W (partnerD c) w e
/-- The combined blocks. -/
def cmbV (c : Dev nD) (w : Fin 2) (e : Fin 16) : Vec F S1x1x32x512 .f32 := comb (rowsAt (partV X W c) (mOff c w e) (mOff_inb c w e)) (xrV X W c w e)
/-- The combined blocks, rounded, as they are sent in the group. -/
def s1V (c : Dev nD) (w : Fin 2) (d : Fin 16) : Vec F S1x1x32x512 .bf16 := cToB (cmbV X W c w d)
/-- The block received from the member at distance `j`. -/
def r1V (c : Dev nD) (w : Fin 2) (j : Fin 16) : Vec F S1x1x32x512 .bf16 := s1V X W (mineD c j) w (opp j)
/-- The own combined block, to which the received ones are added. -/
def tot0 (c : Dev nD) (w : Fin 2) : FVec F S32x512 .f32 := shapeCast S32x512 (cmbV X W c w 0) shapeCasts_S1x1x32x512_S32x512
/-- The total over the group. -/
def totV (c : Dev nD) (w : Fin 2) : FVec F S32x512 .f32 := es15.foldl (fun t j => addf t (ofB (r1V X W c w j))) (tot0 X W c w)
/-- The device's own finished block. -/
def gV (c : Dev nD) (w : Fin 2) : FVec F S32x512 .f32 := geluV (totV X W c w)
/-- The finished block rounded. -/
def gsV (c : Dev nD) (w : Fin 2) : Vec F S1x32x512 .bf16 := gToB (gV X W c w)
/-- The finished blocks of the group. -/
def fbV (c : Dev nD) (w : Fin 2) (e : Fin 16) : Vec F S1x1x32x512 .bf16 := hToS (gsV X W (mineD c e) w)
/-- The finished blocks of the partner's group. -/
def pbV (c : Dev nD) (w : Fin 2) (e : Fin 16) : Vec F S1x1x32x512 .bf16 := fbV X W (partnerD c) w e
/-- The block of device `r` in the result on device `c`: its own as computed, another's as received. -/
def outV (c r : Dev nD) (w : Fin 2) : Vec F S32x512 .f32 := if r = c then gV X W c w else ofB (hToS (gsV X W r w))

theorem outV_self (c : Dev nD) (w : Fin 2) : outV X W c c w = gV X W c w := if_pos rfl
theorem outV_mine (c : Dev nD) (w : Fin 2) (e : Fin 16) (h : e ≠ 0) : outV X W c (mineD c e) w = ofB (fbV X W c w e) := if_neg (mine_ne c e h)
theorem outV_partner (c : Dev nD) (w : Fin 2) (e : Fin 16) : outV X W c (partnerD (mineD c e)) w = ofB (pbV X W c w e) := by
  unfold pbV fbV; rw [partner_mine]; exact if_neg (partner_mine_ne c e)

theorem fbV_zero (c : Dev nD) (w : Fin 2) : fbV X W c w 0 = hToS (gsV X W c w) := by unfold fbV; rw [mine_zero]
theorem pbV_eq (c : Dev nD) (w : Fin 2) (e : Fin 16) : fbV X W (partnerD c) w e = pbV X W c w e := rfl

/-- The index of the block of rows an index of the result lies in. -/
def rowBlk (i : S1024x1024.Idx) : Dev nD := ⟨(i 0).val / 32, by have := (i 0).isLt; change (i 0).val < 1024 at this; show (i 0).val / 32 < 32; omega⟩
/-- The half of the columns it lies in. -/
def colBlk (i : S1024x1024.Idx) : Fin 2 := ⟨(i 1).val / 512, by have := (i 1).isLt; change (i 1).val < 1024 at this; omega⟩
/-- Its place in the block. -/
def inBlk (i : S1024x1024.Idx) : S32x512.Idx
  | ⟨0, _⟩ => ⟨(i 0).val % 32, Nat.mod_lt _ (by decide)⟩
  | ⟨1, _⟩ => ⟨(i 1).val % 512, Nat.mod_lt _ (by decide)⟩
/-- The result on device `c`. -/
def outF (c : Dev nD) : Vec F S1024x1024 .f32 := fun i => outV X W c (rowBlk i) (colBlk i) (inBlk i)

theorem tile_inb : ∀ (r : Dev nD) (w : Fin 2), ∀ a, (![32 * r.val, 512 * w.val] : Fin 2 → Nat) a + S32x512.size a ≤ S1024x1024.size a := by decide
/-- The block of device `r`, half `w`, in the result. -/
abbrev rTile (r : Dev nD) (w : Fin 2) : Rect S1024x1024 := Rect.unit (s := S1024x1024) ![32 * r.val, 512 * w.val] S32x512.size (tile_inb r w)

theorem mem_tile (r : Dev nD) (w : Fin 2) (i : S1024x1024.Idx) : i ∈ (rTile r w).set ↔ rowBlk i = r ∧ colBlk i = w := by
  rw [Rect.mem_set_unit, Fin.forall_fin_two]
  have h0 := (i 0).isLt; have h1 := (i 1).isLt
  change (i 0).val < 1024 at h0; change (i 1).val < 1024 at h1
  show ((32 * r.val ≤ (i 0).val ∧ (i 0).val < 32 * r.val + 32) ∧ (512 * w.val ≤ (i 1).val ∧ (i 1).val < 512 * w.val + 512)) ↔ _
  rw [Fin.ext_iff, Fin.ext_iff]
  show _ ↔ (i 0).val / 32 = r.val ∧ (i 1).val / 512 = w.val
  omega

theorem tile_disj (t t' : Dev nD × Fin 2) (h : t ≠ t') : Disjoint (rTile t.1 t.2).set (rTile t'.1 t'.2).set :=
  Finset.disjoint_left.mpr fun i hi hi' => h (by
    rw [mem_tile] at hi hi'; exact Prod.ext (hi.1.symm.trans hi'.1) (hi.2.symm.trans hi'.2))
theorem tile_cov : (Finset.univ : Finset (Dev nD × Fin 2)).biUnion (fun t => (rTile t.1 t.2).set) = Finset.univ :=
  Finset.eq_univ_iff_forall.mpr fun i => Finset.mem_biUnion.mpr ⟨(rowBlk i, colBlk i), Finset.mem_univ _, (mem_tile _ _ _).mpr ⟨rfl, rfl⟩⟩

theorem mem_slot (w : Fin 2) (e : Fin 16) (i : S2x16x32x512.Idx) : i ∈ (rSlot w e).set ↔ (i 0).val = w.val ∧ (i 1).val = e.val := by
  rw [Rect.mem_set_unit, Fin.forall_fin_succ, Fin.forall_fin_succ, Fin.forall_fin_two]
  have h2 := (i 2).isLt; have h3 := (i 3).isLt
  change (i 2).val < 32 at h2; change (i 3).val < 512 at h3
  show ((w.val ≤ (i 0).val ∧ (i 0).val < w.val + 1) ∧ (e.val ≤ (i 1).val ∧ (i 1).val < e.val + 1)
    ∧ (0 ≤ (i 2).val ∧ (i 2).val < 0 + 32) ∧ (0 ≤ (i 3).val ∧ (i 3).val < 0 + 512)) ↔ _
  omega
theorem mem_slab (w : Fin 2) (i : S2x16x32x512.Idx) : i ∈ (rSlab w).set ↔ (i 0).val = w.val := by
  rw [Rect.mem_set_unit, Fin.forall_fin_succ, Fin.forall_fin_succ, Fin.forall_fin_two]
  have h1 := (i 1).isLt; have h2 := (i 2).isLt; have h3 := (i 3).isLt
  change (i 1).val < 16 at h1; change (i 2).val < 32 at h2; change (i 3).val < 512 at h3
  show ((w.val ≤ (i 0).val ∧ (i 0).val < w.val + 1) ∧ (0 ≤ (i 1).val ∧ (i 1).val < 0 + 16)
    ∧ (0 ≤ (i 2).val ∧ (i 2).val < 0 + 32) ∧ (0 ≤ (i 3).val ∧ (i 3).val < 0 + 512)) ↔ _
  omega
theorem mem_half (w : Fin 2) (i : S2x32x512.Idx) : i ∈ (rHalf w).set ↔ (i 0).val = w.val := by
  rw [Rect.mem_set_unit, Fin.forall_fin_succ, Fin.forall_fin_two]
  have h1 := (i 1).isLt; have h2 := (i 2).isLt
  change (i 1).val < 32 at h1; change (i 2).val < 512 at h2
  show ((w.val ≤ (i 0).val ∧ (i 0).val < w.val + 1) ∧ (0 ≤ (i 1).val ∧ (i 1).val < 0 + 32)
    ∧ (0 ≤ (i 2).val ∧ (i 2).val < 0 + 512)) ↔ _
  omega

theorem slot_disj (t t' : Fin 2 × Fin 16) (h : t ≠ t') : Disjoint (rSlot t.1 t.2).set (rSlot t'.1 t'.2).set :=
  Finset.disjoint_left.mpr fun i hi hi' => h (by
    rw [mem_slot] at hi hi'; exact Prod.ext (Fin.ext (hi.1.symm.trans hi'.1)) (Fin.ext (hi.2.symm.trans hi'.2)))
theorem slot_cov : (Finset.univ : Finset (Fin 2 × Fin 16)).biUnion (fun t => (rSlot t.1 t.2).set) = Finset.univ :=
  Finset.eq_univ_iff_forall.mpr fun i => Finset.mem_biUnion.mpr ⟨(i 0, i 1), Finset.mem_univ _, (mem_slot _ _ _).mpr ⟨rfl, rfl⟩⟩
theorem slab_eq (w : Fin 2) : (rSlab w).set = (Finset.univ : Finset (Fin 16)).biUnion fun e => (rSlot w e).set := by
  ext i
  rw [mem_slab, Finset.mem_biUnion]
  exact ⟨fun h => ⟨i 1, Finset.mem_univ _, (mem_slot _ _ _).mpr ⟨h, rfl⟩⟩, fun ⟨e, _, h⟩ => ((mem_slot _ _ _).mp h).1⟩
theorem half_disj (t t' : Fin 2) (h : t ≠ t') : Disjoint (rHalf t).set (rHalf t').set :=
  Finset.disjoint_left.mpr fun i hi hi' => h (by rw [mem_half] at hi hi'; exact Fin.ext (hi.symm.trans hi'))
theorem half_cov : (Finset.univ : Finset (Fin 2)).biUnion (fun t => (rHalf t).set) = Finset.univ :=
  Finset.eq_univ_iff_forall.mpr fun i => Finset.mem_biUnion.mpr ⟨i 0, Finset.mem_univ _, (mem_half _ _).mpr rfl⟩

/-- An index of the result is the element of its block at its place there. -/
theorem tile_emb (r : Dev nD) (w : Fin 2) (j : S32x512.Idx) : rowBlk ((rTile r w).emb j) = r ∧ colBlk ((rTile r w).emb j) = w ∧ inBlk ((rTile r w).emb j) = j := by
  have hm : (rTile r w).emb j ∈ (rTile r w).set := by rw [← Rect.map_emb_univ]; exact Finset.mem_map_of_mem _ (Finset.mem_univ j)
  obtain ⟨h0, h1⟩ := (mem_tile _ _ _).mp hm
  refine ⟨h0, h1, funext fun a => ?_⟩
  have hj0 := (j 0).isLt; have hj1 := (j 1).isLt
  change (j 0).val < 32 at hj0; change (j 1).val < 512 at hj1
  match a with
  | ⟨0, _⟩ => exact Fin.ext (show (32 * r.val + 1 * (j 0).val) % 32 = (j 0).val by omega)
  | ⟨1, _⟩ => exact Fin.ext (show (512 * w.val + 1 * (j 1).val) % 512 = (j 1).val by omega)

end Cert.KernelIdeal.Gelu

end
-- ==== Proof.Cells.lean ====
/- The semaphores of the kernel, what each transfer and signal hands over through them, in which order they are paid, and
   what a device may wait for while it still owes.

   A device has a barrier semaphore, which sixteen devices raise once each, and DMA semaphores: two per column half for
   the exchange of whole halves with the partner (sent and received, before and after the reduction in the group), and
   two per column half and slot for each of the two rounds of transfers in the group. Every semaphore is used once. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The semaphores -/

/-- A DMA semaphore: one of four kinds per half, or one of four kinds per half and slot. -/
abbrev DC : Type := (Fin 4 × Fin 2) ⊕ (Fin 4 × Fin 2 × Fin 16)
/-- A semaphore: the barrier (`none`) or a DMA semaphore. -/
abbrev Cl : Type := Option DC

abbrev bar : Cl := none
abbrev sx (w : Fin 2) : Cl := some (.inl (⟨0, by decide⟩, w))
abbrev rx (w : Fin 2) : Cl := some (.inl (⟨1, by decide⟩, w))
abbrev sf (w : Fin 2) : Cl := some (.inl (⟨2, by decide⟩, w))
abbrev rf (w : Fin 2) : Cl := some (.inl (⟨3, by decide⟩, w))
abbrev s1 (w : Fin 2) (e : Fin 16) : Cl := some (.inr (⟨0, by decide⟩, w, e))
abbrev r1 (w : Fin 2) (e : Fin 16) : Cl := some (.inr (⟨1, by decide⟩, w, e))
abbrev s2 (w : Fin 2) (e : Fin 16) : Cl := some (.inr (⟨2, by decide⟩, w, e))
abbrev r2 (w : Fin 2) (e : Fin 16) : Cl := some (.inr (⟨3, by decide⟩, w, e))

/-- The machine's semaphore of each DMA semaphore. -/
def osem : DC → SemLoc sig
  | .inl (⟨0, _⟩, w) => .dma (sem2 cc0_scratch9 w)
  | .inl (⟨1, _⟩, w) => .dma (sem2 cc0_scratch10 w)
  | .inl (⟨2, _⟩, w) => .dma (sem2 cc0_scratch15 w)
  | .inl (⟨_ + 3, _⟩, w) => .dma (sem2 cc0_scratch16 w)
  | .inr (⟨0, _⟩, w, e) => .dma (sem216 cc0_scratch11 w e)
  | .inr (⟨1, _⟩, w, e) => .dma (sem216 cc0_scratch12 w e)
  | .inr (⟨2, _⟩, w, e) => .dma (sem216 cc0_scratch13 w e)
  | .inr (⟨_ + 3, _⟩, w, e) => .dma (sem216 cc0_scratch14 w e)
/-- The machine's semaphore of each semaphore. -/
def csem : Cl → SemLoc sig
  | none => .reg (sig.barrier 0 rfl)
  | some x => osem x

theorem ownSemFacts : Pipeline.OwnSemFacts cfg0.spec osem := by decide +kernel
theorem osem_inj : Function.Injective osem := ownSemFacts.inj
theorem osem_ne_bar : ∀ x : DC, osem x ≠ .reg (sig.barrier 0 rfl) := by decide +kernel
theorem csem_inj : Function.Injective csem := by
  rintro (_ | x) (_ | y) h
  · rfl
  · exact absurd h.symm (osem_ne_bar y)
  · exact absurd h (osem_ne_bar x)
  · exact congrArg some (osem_inj h)

/-- Which semaphore of the kernel's a machine semaphore is, if any. -/
def which (s : SemLoc sig) : Option Cl := Function.partialInv csem s
theorem which_csem (x : Cl) : which (csem x) = some x := Function.partialInv_left csem_inj x
theorem which_none {s : SemLoc sig} (h : ∀ x, csem x ≠ s) : which s = none := by
  unfold which Function.partialInv; exact dif_neg fun ⟨x, hx⟩ => h x hx

/-- The semaphore `x` of device `c`. -/
abbrev cell (c : Dev nD) (x : Cl) : GSem nD τ sig := ((c : Thread nD τ), csem x)
theorem cell_inj {c c' : Dev nD} {x x' : Cl} (h : cell c x = cell c' x') : c = c' ∧ x = x' :=
  ⟨congrArg (fun g : GSem nD τ sig => g.1.1) h, csem_inj (congrArg Prod.snd h)⟩

/-! ## Owning parts of the buffers -/

/-- Device `c` owns the entry `(w, e)` of a buffer of thirty-two blocks, at contents `v`; -/
def slotO {e' : EltTy} (c : Dev nD) (m : Memref sig .tc .vmem S2x16x32x512 e') (w : Fin 2) (e : Fin 16) (v : Vec F S1x1x32x512 e') : sProp 𝕄 :=
  ownsTc c (m.slice (rSlot w e) (fun _ => rfl)) fullShare v
/-- at any contents; -/
def slotA {e' : EltTy} (c : Dev nD) (m : Memref sig .tc .vmem S2x16x32x512 e') (w : Fin 2) (e : Fin 16) : sProp 𝕄 :=
  iprop(∃ v : Vec F S1x1x32x512 e', slotO c m w e v)
/-- all the entries of the half `w`, at contents `v`; -/
def slabO {e' : EltTy} (c : Dev nD) (m : Memref sig .tc .vmem S2x16x32x512 e') (w : Fin 2) (v : Fin 16 → Vec F S1x1x32x512 e') : sProp 𝕄 :=
  bigSep Finset.univ fun e => slotO c m w e (v e)
/-- at any contents. -/
def slabA {e' : EltTy} (c : Dev nD) (m : Memref sig .tc .vmem S2x16x32x512 e') (w : Fin 2) : sProp 𝕄 :=
  bigSep (Finset.univ : Finset (Fin 16)) fun e => slotA (F := F) c m w e
/-- Device `c` owns, at share `q`, the half `w` of its finished blocks at contents `v`. -/
def halfO (c : Dev nD) (w : Fin 2) (q : PosShare TreeShare) (v : Vec F S1x32x512 .bf16) : sProp 𝕄 :=
  ownsTc c (mGs.slice (rHalf w) (fun _ => rfl)) q v
/-- Device `c` owns the block of device `r`, half `w`, of the result at contents `v`. -/
def tileO (c r : Dev nD) (w : Fin 2) (v : Vec F S32x512 .f32) : sProp 𝕄 :=
  ownsTc c (mOut.slice (rTile r w) (fun _ => rfl)) fullShare v
def tileA (c r : Dev nD) (w : Fin 2) : sProp 𝕄 := iprop(∃ v : Vec F S32x512 .f32, tileO c r w v)

instance slotO_storable {e' : EltTy} (c : Dev nD) (m : Memref sig .tc .vmem S2x16x32x512 e') (w e v) : BI.Storable (upEmb : UEmb _ 𝕄) (slotO (F := F) c m w e v) := by
  unfold slotO; infer_instance
instance slotA_storable {e' : EltTy} (c : Dev nD) (m : Memref sig .tc .vmem S2x16x32x512 e') (w e) : BI.Storable (upEmb : UEmb _ 𝕄) (slotA (F := F) c m w e) := by
  unfold slotA; infer_instance
instance slabO_storable {e' : EltTy} (c : Dev nD) (m : Memref sig .tc .vmem S2x16x32x512 e') (w v) : BI.Storable (upEmb : UEmb _ 𝕄) (slabO (F := F) c m w v) := by
  unfold slabO; infer_instance
instance slabA_storable {e' : EltTy} (c : Dev nD) (m : Memref sig .tc .vmem S2x16x32x512 e') (w) : BI.Storable (upEmb : UEmb _ 𝕄) (slabA (F := F) c m w) := by
  unfold slabA; infer_instance
instance halfO_storable (c : Dev nD) (w q v) : BI.Storable (upEmb : UEmb _ 𝕄) (halfO (F := F) c w q v) := by
  unfold halfO; infer_instance

/-! ## The schedule -/

/-- The landing places the device at distance `d` hands over with its signal: the partner's for the exchange, another
    member's the two slots device `c` sends into. -/
def barPay (c : Dev nD) (d : Fin 16) : sProp 𝕄 :=
  if d = 0 then bigSep (Finset.univ : Finset (Fin 2)) fun w => iprop(slabA (F := F) (partnerD c) mXr w ∗ slabA (F := F) (partnerD c) mPb w)
  else bigSep (Finset.univ : Finset (Fin 2)) fun w => iprop(slotA (F := F) (mineD c d) mR1b w (opp d) ∗ slotA (F := F) (mineD c d) mFb w (opp d))

instance barPay_storable (c : Dev nD) (d : Fin 16) : BI.Storable (upEmb : UEmb _ 𝕄) (barPay (F := F) c d) := by
  unfold barPay; split <;> infer_instance

variable (X : Dev nD → Vec F S1024x32 .bf16) (W : Dev nD → Vec F S32x1024 .bf16)

/-- What a DMA semaphore's completion hands its device: the source back, or the destination filled. -/
def dmaPay (c : Dev nD) : DC → sProp 𝕄
  | .inl (⟨0, _⟩, w) => slabO c mXs w (xsV X W c w)
  | .inl (⟨1, _⟩, w) => slabO c mXr w (xrV X W c w)
  | .inl (⟨2, _⟩, w) => slabO c mFb w (fbV X W c w)
  | .inl (⟨_ + 3, _⟩, w) => slabO c mPb w (pbV X W c w)
  | .inr (⟨0, _⟩, w, e) => slotO c mS1b w e (s1V X W c w e)
  | .inr (⟨1, _⟩, w, e) => slotO c mR1b w e (r1V X W c w e)
  | .inr (⟨2, _⟩, w, e) => halfO c w (ShareLeaves.leaf 4 fullShare e) (gsV X W c w)
  | .inr (⟨_ + 3, _⟩, w, e) => slotO c mFb w e (fbV X W c w e)

instance dmaPay_storable (c : Dev nD) (x : DC) : BI.Storable (upEmb : UEmb _ 𝕄) (dmaPay X W c x) := by
  unfold dmaPay; split <;> infer_instance

def pay (c : Dev nD) : Cl → Fin 16 → sProp 𝕄
  | none, d => barPay c d
  | some x, _ => dmaPay X W c x

instance pay_storable (c : Dev nD) (x : Cl) (d : Fin 16) : BI.Storable (upEmb : UEmb _ 𝕄) (pay X W c x d) := by
  unfold pay; split <;> infer_instance

/-- The credit of a slot's transfer and of a half's. -/
abbrev NS : ℕ := (slot mR1b 0 0).view.dmaCredit
abbrev NL : ℕ := (slab mXr 0).view.dmaCredit
theorem NS_pos : 0 < NS := View.dmaCredit_pos _ (by decide)
theorem NL_pos : 0 < NL := View.dmaCredit_pos _ (by decide)

def amt : Cl → ℕ
  | none => 1
  | some (.inl _) => NL
  | some (.inr _) => NS
theorem amt_pos (x : Cl) : 0 < amt x := by
  unfold amt; split
  · exact Nat.one_pos
  · exact NL_pos
  · exact NS_pos

/-- The barrier is raised by sixteen devices; a transfer in the group has a distance other than zero. -/
def dutiesOf : Cl → Finset (Fin 16)
  | none => Finset.univ
  | some (.inl _) => {0}
  | some (.inr (_, _, e)) => if e = 0 then ∅ else {0}

def sched : Rounds.Schedule (GSem nD τ sig) (Fin 16) 𝕄 where
  duties g r := if r = 0 then (which g.2).elim ∅ dutiesOf else ∅
  unitless _ := False
  amount g _ _ := (which g.2).elim 1 amt
  payload g _ d := (which g.2).elim iprop(emp) fun x => pay X W g.1.1 x d
  amount_pos g _ _ _ := by
    cases h : which g.2 with
    | none => exact Nat.one_pos
    | some x => exact amt_pos x

instance sched_storable (g : GSem nD τ sig) (r : ℕ) (d : Fin 16) : BI.Storable (upEmb : UEmb _ 𝕄) ((sched X W).payload g r d) := by
  show BI.Storable upEmb ((which g.2).elim iprop(emp) fun x => pay X W g.1.1 x d)
  cases which g.2 with
  | none => show BI.Storable upEmb (iprop(emp) : sProp 𝕄); infer_instance
  | some x => show BI.Storable upEmb (pay X W g.1.1 x d); infer_instance

theorem duties_cell (c : Dev nD) (x : Cl) : (sched X W).duties (cell c x) 0 = dutiesOf x := by
  show (if 0 = 0 then (which (csem x)).elim ∅ dutiesOf else ∅) = _
  rw [which_csem]; rfl
theorem duties_later (g : GSem nD τ sig) : ∀ r, 1 ≤ r → (sched X W).duties g r = ∅ := fun r hr => if_neg (by omega)
theorem amount_cell (c : Dev nD) (x : Cl) (r : ℕ) (d : Fin 16) : (sched X W).amount (cell c x) r d = amt x := by
  show (which (csem x)).elim 1 amt = _
  rw [which_csem]; rfl
theorem payload_cell (c : Dev nD) (x : Cl) (r : ℕ) (d : Fin 16) : (sched X W).payload (cell c x) r d = pay X W c x d := by
  show (which (csem x)).elim iprop(emp) (fun y => pay X W c y d) = _
  rw [which_csem]; rfl
theorem expect_cell (c : Dev nD) (x : Cl) : (sched X W).expect (cell c x) 0 = (dutiesOf x).card * amt x := by
  unfold Schedule.expect Schedule.amountOf
  rw [duties_cell, Finset.sum_congr rfl fun d _ => amount_cell X W c x 0 d, Finset.sum_const, smul_eq_mul]

/-! ## What a device owes, and the order of waiting -/

/-- The height of a semaphore: a device waits at a semaphore only while everything it owes is higher. -/
def lvl : Cl → ℕ
  | none => 1
  | some (.inl (⟨1, _⟩, _)) => 2
  | some (.inl (⟨3, _⟩, _)) => 5
  | some (.inl _) => 0
  | some (.inr (⟨1, _⟩, _)) => 3
  | some (.inr (⟨3, _⟩, _)) => 4
  | some (.inr _) => 0

def L (g : GSem nD τ sig) : Finset Unit := if g.1.2 = .tc then {()} else ∅
def lv (g : GSem nD τ sig) (_ : Unit) : ℕ := (which g.2).elim 0 lvl
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cl) (u : Unit) : lv (cell c x) u = lvl x := by
  show (which (csem x)).elim 0 lvl = _
  rw [which_csem]; rfl

/-- What is owed for a list of semaphores still to be raised, the head to be raised first. -/
def Os : List (Dev nD × Cl) → CellTallies nD τ sig Unit
  | [] => 0
  | y :: l => Os l + tallyAt (cell y.1 y.2) () (amt y.2)

/-- The semaphores a device raises, in order: the barriers, the partner's for the exchange, the members' for the
    partial sums, the members' for the finished blocks, the partner's for the group's finished blocks. -/
def sigDebts (c : Dev nD) : List (Dev nD × Cl) := es15.map fun d => (mineD c d, bar)
def xDebts (c : Dev nD) (l : List (Fin 2)) : List (Dev nD × Cl) := l.map fun w => (partnerD c, rx w)
def sDebts (c : Dev nD) (w : Fin 2) (l : List (Fin 16)) : List (Dev nD × Cl) := l.map fun d => (mineD c d, r1 w (opp d))
def gDebts (c : Dev nD) (w : Fin 2) (l : List (Fin 16)) : List (Dev nD × Cl) := l.map fun d => (mineD c d, r2 w (opp d))
def fDebts (c : Dev nD) (l : List (Fin 2)) : List (Dev nD × Cl) := l.map fun w => (partnerD c, rf w)
def debts4 (c : Dev nD) (l : List (Fin 2)) : List (Dev nD × Cl) := fDebts c l
def debts3 (c : Dev nD) (l : List (Fin 2)) : List (Dev nD × Cl) := l.flatMap (fun w => gDebts c w es15) ++ debts4 c ws
def debts2 (c : Dev nD) (l : List (Fin 2)) : List (Dev nD × Cl) := l.flatMap (fun w => sDebts c w es15) ++ debts3 c ws
def debts1 (c : Dev nD) (l : List (Fin 2)) : List (Dev nD × Cl) := xDebts c l ++ debts2 c ws
def debts0 (c : Dev nD) : List (Dev nD × Cl) := (partnerD c, bar) :: (sigDebts c ++ debts1 c ws)

theorem Os_pos {l : List (Dev nD × Cl)} {g : GSem nD τ sig} {u : Unit} (h : 0 < Os l g u) : ∃ y ∈ l, g = cell y.1 y.2 := by
  induction l with
  | nil => exact absurd h (Nat.lt_irrefl 0)
  | cons y l ih =>
    unfold Os at h
    rw [Pi.add_apply, Finsupp.add_apply, tallyAt_apply] at h
    by_cases hg : g = cell y.1 y.2 ∧ u = ()
    · exact ⟨y, List.mem_cons_self, hg.1⟩
    · rw [if_neg hg, Nat.add_zero] at h
      obtain ⟨z, hz, hgz⟩ := ih h
      exact ⟨z, List.mem_cons_of_mem _ hz, hgz⟩

/-- Everything in the list is higher than `k`. -/
def Above (k : ℕ) (l : List (Dev nD × Cl)) : Prop := ∀ y ∈ l, k < lvl y.2
theorem above_nil (k : ℕ) : Above k [] := fun _ h => absurd h List.not_mem_nil
theorem above_append {k : ℕ} {l l' : List (Dev nD × Cl)} (h : Above k l) (h' : Above k l') : Above k (l ++ l') :=
  fun y hy => (List.mem_append.mp hy).elim (h y) (h' y)
theorem above_map {k : ℕ} {α : Type} {l : List α} {f : α → Dev nD × Cl} (h : ∀ a, k < lvl (f a).2) : Above k (l.map f) := fun y hy => by
  obtain ⟨a, _, rfl⟩ := List.mem_map.mp hy; exact h a
theorem above_flatMap {k : ℕ} {α : Type} {l : List α} {f : α → List (Dev nD × Cl)} (h : ∀ a, Above k (f a)) : Above k (l.flatMap f) := fun y hy => by
  obtain ⟨a, _, hy⟩ := List.mem_flatMap.mp hy; exact h a y hy
theorem above_sig (c : Dev nD) : Above 0 (sigDebts c) := above_map fun _ => Nat.one_pos
theorem above_x (c : Dev nD) (l) {k : ℕ} (hk : k < 2) : Above k (xDebts c l) := above_map fun _ => hk
theorem above_s (c : Dev nD) (w l) {k : ℕ} (hk : k < 3) : Above k (sDebts c w l) := above_map fun _ => hk
theorem above_g (c : Dev nD) (w l) {k : ℕ} (hk : k < 4) : Above k (gDebts c w l) := above_map fun _ => hk
theorem above_4 (c : Dev nD) (l) {k : ℕ} (hk : k < 5) : Above k (debts4 c l) := above_map fun _ => hk
theorem above_3 (c : Dev nD) (l) {k : ℕ} (hk : k < 4) : Above k (debts3 c l) :=
  above_append (above_flatMap fun w => above_g c w _ hk) (above_4 c _ (by omega))
theorem above_2 (c : Dev nD) (l) {k : ℕ} (hk : k < 3) : Above k (debts2 c l) :=
  above_append (above_flatMap fun w => above_s c w _ hk) (above_3 c _ (by omega))
theorem above_1 (c : Dev nD) (l) {k : ℕ} (hk : k < 2) : Above k (debts1 c l) :=
  above_append (above_x c _ hk) (above_2 c _ (by omega))
theorem above_0 (c : Dev nD) : Above 0 (debts0 c) := fun y hy => by
  rcases List.mem_cons.mp hy with rfl | hy
  · exact Nat.one_pos
  · exact above_append (above_sig c) (above_1 c _ (by decide)) y hy

theorem mayWait_at (c : Dev nD) (sm : SemLoc sig) (l : List (Dev nD × Cl)) {k : ℕ} (hk : lv ((c : Thread nD τ), sm) () ≤ k) (h : Above k l) :
    (levAts L lv : sProp 𝕄) ⊢ MayWait (c : Thread nD τ) sm () (Os l) :=
  MayOwe.of_cut (L := L) (lev := lv) k (fun p hp => by rw [Finset.mem_singleton.mp hp, L_tc]; exact Finset.mem_singleton_self _)
    (fun g u hg => by obtain ⟨y, _, rfl⟩ := Os_pos hg; exact Finset.mem_singleton_self _)
    (fun p hp => by rw [Finset.mem_singleton.mp hp]; exact hk)
    (fun g u hg => by obtain ⟨y, hy, rfl⟩ := Os_pos hg; rw [lv_cell]; exact h y hy)
theorem mayWait (c : Dev nD) (x : Cl) (l : List (Dev nD × Cl)) (h : Above (lvl x) l) :
    (levAts L lv : sProp 𝕄) ⊢ MayWait (c : Thread nD τ) (csem x) () (Os l) :=
  mayWait_at c (csem x) l (le_of_eq (lv_cell c x ())) h

end Cert.KernelIdeal.Gelu

end
-- ==== Proof.Steps.lean ====
/- The rules the body is proved with: one per memory operation and per loop. A rule has the form: from what the operation
   uses and, for what it leaves, a proof of what follows, the operation followed by that. -/
module

public import proofs.«01_k».proof.Proof.Cells

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` runs `p` safely, and then has `Q`. -/
def WP (c : Dev nD) {α : Type} (p : P F α) (Q : α → sProp 𝕄) : sProp 𝕄 :=
  wp frame (wpE (defs₀ (F := F)) 𝒱₀ (c : Thread nD τ) none) Set.univ p Q

theorem WP_bind (c : Dev nD) {α β : Type} (p : P F α) (k : α → P F β) (Q : β → sProp 𝕄) :
    WP c (p >>= k) Q = WP c p fun a => WP c (k a) Q := wp_bind _ _ _ _ _ _
theorem WP_pure (c : Dev nD) {α : Type} (a : α) (Q : α → sProp 𝕄) : Q a ⊢ WP c (pure a : P F α) Q := by
  unfold WP; rw [wp_pure]; iintro H; imodintro; iexact H

/-! ## Families over lists -/

/-- The separating conjunction of a family over the members of a list. -/
def sepL {α : Type} : List α → (α → sProp 𝕄) → sProp 𝕄
  | [], _ => iprop(emp)
  | a :: l, A => iprop(A a ∗ sepL l A)

theorem sepL_mono {α : Type} {A B : α → sProp 𝕄} : ∀ {l : List α}, (∀ a ∈ l, A a ⊢ B a) → sepL l A ⊢ sepL l B
  | [], _ => BI.Entails.refl _
  | a :: l, h => by
    unfold sepL
    iintro ⟨HA, HL⟩
    isplitl [HA]
    · iapply (h a List.mem_cons_self); iexact HA
    · iapply (sepL_mono fun b hb => h b (List.mem_cons_of_mem _ hb)); iexact HL
theorem sepL_congr {α : Type} {A B : α → sProp 𝕄} : ∀ {l : List α}, (∀ a ∈ l, A a = B a) → sepL l A = sepL l B
  | [], _ => rfl
  | a :: l, h => by
    unfold sepL
    rw [h a List.mem_cons_self, sepL_congr fun b hb => h b (List.mem_cons_of_mem _ hb)]
theorem sepL_sep {α : Type} {A B : α → sProp 𝕄} : ∀ (l : List α), sepL l (fun a => iprop(A a ∗ B a)) ⊢ iprop(sepL l A ∗ sepL l B)
  | [] => by unfold sepL; iintro -; isplitl [] <;> iempintro
  | a :: l => by
    unfold sepL
    iintro ⟨⟨HA, HB⟩, HL⟩
    ihave H := (sepL_sep l) $$ HL
    icases H with ⟨HLA, HLB⟩
    isplitl [HA HLA]
    · isplitl [HA] <;> iassumption
    · isplitl [HB] <;> iassumption
theorem sepL_zip {α : Type} {A B : α → sProp 𝕄} : ∀ (l : List α), iprop(sepL l A ∗ sepL l B) ⊢ sepL l (fun a => iprop(A a ∗ B a))
  | [] => by unfold sepL; iintro -; iempintro
  | a :: l => by
    unfold sepL
    iintro ⟨⟨HA, HLA⟩, HB, HLB⟩
    isplitl [HA HB]
    · isplitl [HA] <;> iassumption
    · iapply (sepL_zip l); isplitl [HLA] <;> iassumption
theorem sepL_emp {α : Type} : ∀ (l : List α), ⊢ (sepL l (fun _ => iprop(emp)) : sProp 𝕄)
  | [] => by unfold sepL; iempintro
  | a :: l => by unfold sepL; isplitl []; · iempintro
                 iapply (sepL_emp l)

theorem sepL_eq {α : Type} [DecidableEq α] (A : α → sProp 𝕄) : ∀ {l : List α}, l.Nodup → bigSep l.toFinset A = sepL l A
  | [], _ => bigSep_empty
  | a :: l, h => by
    unfold sepL
    rw [List.toFinset_cons, bigSep_insert (by rw [List.mem_toFinset]; exact (List.nodup_cons.mp h).1), sepL_eq A (List.nodup_cons.mp h).2]
    rfl
theorem all16 (A : Fin 16 → sProp 𝕄) : bigSep Finset.univ A = iprop(A 0 ∗ sepL es15 A) := by
  rw [show (Finset.univ : Finset (Fin 16)) = (es16).toFinset by decide, sepL_eq A (by decide)]; rfl
theorem all16' (A : Fin 16 → sProp 𝕄) : bigSep Finset.univ A = sepL es16 A := all16 A
theorem all2 (A : Fin 2 → sProp 𝕄) : bigSep Finset.univ A = sepL ws A := by
  rw [show (Finset.univ : Finset (Fin 2)) = ws.toFinset by decide, sepL_eq A (by decide)]

/-! ## Loops -/

/-- A loop that keeps `C` of the members still to come, uses `A` of each member and leaves `B` of it. -/
theorem wp_forL (c : Dev nD) {α : Type} {R : sProp 𝕄} [BI.Persistent R] (Pr : α → Prop) (C : List α → sProp 𝕄) (A B : α → sProp 𝕄) (f : α → P F PUnit)
    (step : ∀ a l, Pr a → ∀ Q : PUnit → sProp 𝕄, iprop(R ∗ C (a :: l) ∗ A a ∗ (C l -∗ B a -∗ Q ⟨⟩)) ⊢ WP c (f a) Q) :
    ∀ l : List α, (∀ a ∈ l, Pr a) → ∀ Q : PUnit → sProp 𝕄, iprop(R ∗ C l ∗ sepL l A ∗ (C [] -∗ sepL l B -∗ Q ⟨⟩)) ⊢ WP c (forL l f) Q
  | [], _, Q => by
    unfold forL sepL
    iintro ⟨-, HC, -, HQ⟩
    iapply (WP_pure c (⟨⟩ : PUnit) Q)
    iapply HQ $$ HC
    iempintro
  | a :: l, h, Q => by
    unfold forL sepL
    rw [WP_bind]
    iintro ⟨#HR, HC, ⟨HA, HL⟩, HQ⟩
    iapply (step a l (h a List.mem_cons_self) _)
    isplitr; · iexact HR
    isplitl [HC]; · iexact HC
    isplitl [HA]; · iexact HA
    iintro HC HB
    iapply (wp_forL c Pr C A B f step l (fun b hb => h b (List.mem_cons_of_mem _ hb)) Q)
    isplitr; · iexact HR
    isplitl [HC]; · iexact HC
    isplitl [HL]; · iexact HL
    iintro HC HL
    iapply HQ $$ HC
    isplitl [HB] <;> iassumption

/-- The same, carrying a value. -/
theorem wp_foldL (c : Dev nD) {α β : Type} {R : sProp 𝕄} [BI.Persistent R] (C : sProp 𝕄) (A B : α → sProp 𝕄) (f : β → α → P F β) (g : β → α → β)
    (Pr : α → Prop)
    (step : ∀ a b, Pr a → ∀ Q : β → sProp 𝕄, iprop(R ∗ C ∗ A a ∗ (C -∗ B a -∗ Q (g b a))) ⊢ WP c (f b a) Q) :
    ∀ l : List α, (∀ a ∈ l, Pr a) → ∀ (b : β) (Q : β → sProp 𝕄), iprop(R ∗ C ∗ sepL l A ∗ (C -∗ sepL l B -∗ Q (l.foldl g b))) ⊢ WP c (foldL l f b) Q
  | [], _, b, Q => by
    unfold foldL sepL
    rw [List.foldl_nil]
    iintro ⟨-, HC, -, HQ⟩
    iapply (WP_pure c b Q)
    iapply HQ $$ HC
    iempintro
  | a :: l, h, b, Q => by
    unfold foldL sepL
    rw [WP_bind, List.foldl_cons]
    iintro ⟨#HR, HC, ⟨HA, HL⟩, HQ⟩
    iapply (step a b (h a List.mem_cons_self) _)
    isplitr; · iexact HR
    isplitl [HC]; · iexact HC
    isplitl [HA]; · iexact HA
    iintro HC HB
    iapply (wp_foldL c C A B f g Pr step l (fun b hb => h b (List.mem_cons_of_mem _ hb)) (g b a) Q)
    isplitr; · iexact HR
    isplitl [HC]; · iexact HC
    isplitl [HL]; · iexact HL
    iintro HC HL
    iapply HQ $$ HC
    isplitl [HB] <;> iassumption

/-! ## Loads and stores -/

/-- A load of a part of a buffer owned by itself. -/
theorem wp_ld (c : Dev nD) {s : Shape} {e : EltTy} (m : Memref sig .tc .vmem s e) (r : Rect s) (hr : ∀ a, r.stride a = 1) (hl : m.view.LoadsAt r.toLoadRect)
    (q : PosShare TreeShare) (v : r.shape.Idx → Elt F e) (Q : (r.shape.Idx → Elt F e) → sProp 𝕄) :
    iprop(ownsTc c (m.slice r hr) q v ∗ (ownsTc c (m.slice r hr) q v -∗ Q v)) ⊢ WP c (Prog.lift (.load m r.toLoadRect hl)) Q := by
  unfold WP ownsTc owns
  iintro ⟨⟨%f, %hf, H⟩, HQ⟩
  iapply (wp_load_rect 𝒱₀ (c : Thread nD τ) none Set.univ (m := m) (r := r) (f := f) (S := (m.access r).set) (q := q) (fun _ h => h)) $$ [H]
  · iexact H
  iintro H
  rw [wp_ret]; imodintro
  rw [show (m.access r).read (Elt F) f = v from hf]
  iapply HQ
  iexists f; isplitr; · (ipureintro; exact hf)
  iexact H

/-- A store of a part of a buffer owned by itself. -/
theorem wp_st (c : Dev nD) {s : Shape} {e : EltTy} (m : Memref sig .tc .vmem s e) (r : Rect s) (hr : ∀ a, r.stride a = 1) (w : r.shape.Idx → Elt F e)
    (hx : (m.access r).Stores Finset.univ) (hm : Finset.univ = Finset.univ ∨ ∀ a, r.stride a = 1) (v : r.shape.Idx → Elt F e) (Q : PUnit → sProp 𝕄) :
    iprop(ownsTc c (m.slice r hr) fullShare v ∗ (ownsTc c (m.slice r hr) fullShare w -∗ Q ⟨⟩)) ⊢ WP c (Prog.lift (.store m r w Finset.univ hx hm)) Q := by
  unfold WP ownsTc owns
  iintro ⟨⟨%f, %hf, H⟩, HQ⟩
  iapply (wp_store 𝒱₀ (c : Thread nD τ) none Set.univ (m := m) (r := r) (f := f) (S := (m.access r).set) (by rw [View.setOn_univ])) $$ [H]
  · iexact H
  iintro H
  rw [wp_ret]; imodintro
  iapply HQ
  iexists _
  isplitr [H]; swap; · iexact H
  ipureintro
  exact View.read_write_univ f w

theorem wp_ldSlot (c : Dev nD) {e' : EltTy} (m : Memref sig .tc .vmem S2x16x32x512 e') (w : Fin 2) (e : Fin 16) (v : Vec F S1x1x32x512 e')
    (Q : Vec F S1x1x32x512 e' → sProp 𝕄) : iprop(slotO c m w e v ∗ (slotO c m w e v -∗ Q v)) ⊢ WP c (ldSlot m w e) Q :=
  wp_ld c m (rSlot w e) (fun _ => rfl) _ fullShare v Q
/-- A load whose value is not used. -/
theorem wp_ldSlotA (c : Dev nD) {e' : EltTy} (m : Memref sig .tc .vmem S2x16x32x512 e') (w : Fin 2) (e : Fin 16)
    (Q : Vec F S1x1x32x512 e' → sProp 𝕄) : iprop(slotA (F := F) c m w e ∗ (∀ v, slotA (F := F) c m w e -∗ Q v)) ⊢ WP c (ldSlot m w e) Q := by
  unfold slotA slotO
  iintro ⟨⟨%v, H⟩, HQ⟩
  iapply (wp_ld c m (rSlot w e) (fun _ => rfl) _ fullShare v Q)
  isplitl [H]; · iexact H
  iintro H
  iapply HQ
  iexists v; iexact H
theorem wp_stSlot16 (c : Dev nD) (m : Memref sig .tc .vmem S2x16x32x512 .bf16) (h : m.IsWhole) (w : Fin 2) (e : Fin 16) (v : Vec F S1x1x32x512 .bf16)
    (Q : PUnit → sProp 𝕄) : iprop(slotA (F := F) c m w e ∗ (slotO c m w e v -∗ Q ⟨⟩)) ⊢ WP c (stSlot16 m h w e v) Q := by
  unfold slotA slotO
  iintro ⟨⟨%u, H⟩, HQ⟩
  iapply (wp_st c m (rSlot w e) (fun _ => rfl) v _ _ u Q)
  isplitl [H]; · iexact H
  iexact HQ
theorem wp_stSlot32 (c : Dev nD) (m : Memref sig .tc .vmem S2x16x32x512 .f32) (w : Fin 2) (e : Fin 16) (v : Vec F S1x1x32x512 .f32)
    (Q : PUnit → sProp 𝕄) : iprop(slotA (F := F) c m w e ∗ (slotO c m w e v -∗ Q ⟨⟩)) ⊢ WP c (stSlot32 m w e v) Q := by
  unfold slotA slotO
  iintro ⟨⟨%u, H⟩, HQ⟩
  iapply (wp_st c m (rSlot w e) (fun _ => rfl) v _ _ u Q)
  isplitl [H]; · iexact H
  iexact HQ

/-- A half of the finished blocks, at any contents. -/
def halfA (c : Dev nD) (w : Fin 2) : sProp 𝕄 := iprop(∃ v : Vec F S1x32x512 .bf16, halfO c w fullShare v)

theorem wp_ldHalf (c : Dev nD) (w : Fin 2) (v : Vec F S1x32x512 .bf16)
    (Q : Vec F S1x32x512 .bf16 → sProp 𝕄) : iprop(halfO c w fullShare v ∗ (halfO c w fullShare v -∗ Q v)) ⊢ WP c (ldHalf mGs w) Q :=
  wp_ld c mGs (rHalf w) (fun _ => rfl) _ fullShare v Q
theorem wp_ldHalfA (c : Dev nD) (w : Fin 2)
    (Q : Vec F S1x32x512 .bf16 → sProp 𝕄) : iprop(halfA (F := F) c w ∗ (∀ v, halfA (F := F) c w -∗ Q v)) ⊢ WP c (ldHalf mGs w) Q := by
  unfold halfA halfO
  iintro ⟨⟨%v, H⟩, HQ⟩
  iapply (wp_ld c mGs (rHalf w) (fun _ => rfl) _ fullShare v Q)
  isplitl [H]; · iexact H
  iintro H
  iapply HQ
  iexists v; iexact H
theorem wp_stHalf (c : Dev nD) (h : mGs.IsWhole) (w : Fin 2) (v : Vec F S1x32x512 .bf16)
    (Q : PUnit → sProp 𝕄) : iprop(halfA (F := F) c w ∗ (halfO c w fullShare v -∗ Q ⟨⟩)) ⊢ WP c (stHalf mGs h w v) Q := by
  unfold halfA halfO
  iintro ⟨⟨%u, H⟩, HQ⟩
  iapply (wp_st c mGs (rHalf w) (fun _ => rfl) v _ _ u Q)
  isplitl [H]; · iexact H
  iexact HQ

theorem wp_ldTileA (c r : Dev nD) (w : Fin 2) (off : Fin 2 → Nat) (inb : ∀ a, off a + S32x512.size a ≤ S1024x1024.size a)
    (h : off = ![32 * r.val, 512 * w.val]) (Q : Vec F S32x512 .f32 → sProp 𝕄) :
    iprop(tileA (F := F) c r w ∗ (∀ v, tileA (F := F) c r w -∗ Q v)) ⊢ WP c (ldRows mOut off inb) Q := by
  subst h
  unfold tileA tileO
  iintro ⟨⟨%v, H⟩, HQ⟩
  iapply (wp_ld c mOut (rTile r w) (fun _ => rfl) _ fullShare v Q)
  isplitl [H]; · iexact H
  iintro H
  iapply HQ
  iexists v; iexact H
theorem wp_stTile (c r : Dev nD) (w : Fin 2) (off : Fin 2 → Nat) (inb : ∀ a, off a + S32x512.size a ≤ S1024x1024.size a)
    (h : off = ![32 * r.val, 512 * w.val]) (v : Vec F S32x512 .f32) (Q : PUnit → sProp 𝕄) :
    iprop(tileA (F := F) c r w ∗ (tileO c r w v -∗ Q ⟨⟩)) ⊢ WP c (stRows mOut off inb v) Q := by
  subst h
  unfold tileA tileO
  iintro ⟨⟨%u, H⟩, HQ⟩
  iapply (wp_st c mOut (rTile r w) (fun _ => rfl) v _ _ u Q)
  isplitl [H]; · iexact H
  iexact HQ

/-- The device's part of the product, owned whole. -/
def partO (c : Dev nD) (v : Vec F S1024x1024 .f32) : sProp 𝕄 := (((c : Thread nD τ).loc cc0_scratch0) ↦{fullShare} v)

theorem wp_ldPart (c : Dev nD) (off : Fin 2 → Nat) (inb : ∀ a, off a + S32x512.size a ≤ S1024x1024.size a)
    (v : Vec F S1024x1024 .f32) (Q : Vec F S32x512 .f32 → sProp 𝕄) :
    iprop(partO c v ∗ (partO c v -∗ Q (rowsAt v off inb))) ⊢ WP c (ldRows mPart off inb) Q := by
  unfold WP partO
  iintro ⟨H, HQ⟩
  iapply (wp_load_rect 𝒱₀ (c : Thread nD τ) none Set.univ (m := mPart) (r := Rect.unit (s := S1024x1024) off S32x512.size inb) (f := v)
    (S := Finset.univ) (q := fullShare) (Finset.subset_univ _)) $$ [H]
  · iexact H
  iintro H
  rw [wp_ret]; imodintro
  rw [show (mPart.access (Rect.unit (s := S1024x1024) off S32x512.size inb)).read (Elt F) v = rowsAt v off inb from rfl]
  iapply HQ
  iexact H

end Cert.KernelIdeal.Gelu

end
-- ==== Proof.Moves.lean ====
/- The transfers, signals and waits of the kernel: what each uses and what it leaves. A transfer hands its source to its
   send semaphore and the filled destination to its receive semaphore; a wait takes what its semaphore holds. -/
module

public import proofs.«01_k».proof.Proof.Steps
public import Idealize.ShloMosaic.Lib.ViewIndex

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Parts of a buffer as elements of the buffer -/

/-- The place of an index of a buffer of thirty-two blocks in its block. -/
def inSlot (i : S2x16x32x512.Idx) : S1x1x32x512.Idx
  | ⟨0, _⟩ => ⟨0, Nat.one_pos⟩
  | ⟨1, _⟩ => ⟨0, Nat.one_pos⟩
  | ⟨2, _⟩ => i 2
  | ⟨3, _⟩ => i 3
/-- The place of an index of a buffer of two blocks in its block. -/
def inHalf (i : S2x32x512.Idx) : S1x32x512.Idx
  | ⟨0, _⟩ => ⟨0, Nat.one_pos⟩
  | ⟨1, _⟩ => i 1
  | ⟨2, _⟩ => i 2

theorem slot_emb (w : Fin 2) (e : Fin 16) (j : S1x1x32x512.Idx) : (rSlot w e).emb j 1 = e ∧ inSlot ((rSlot w e).emb j) = j := by
  have h0 := (j 0).isLt; have h1 := (j 1).isLt
  change (j 0).val < 1 at h0; change (j 1).val < 1 at h1
  refine ⟨Fin.ext (show e.val + 1 * (j 1).val = e.val by omega), funext fun a => ?_⟩
  match a with
  | ⟨0, _⟩ => exact Fin.ext (show 0 = (j 0).val by omega)
  | ⟨1, _⟩ => exact Fin.ext (show 0 = (j 1).val by omega)
  | ⟨2, _⟩ => exact Fin.ext (show 0 + 1 * (j 2).val = (j 2).val by omega)
  | ⟨3, _⟩ => exact Fin.ext (show 0 + 1 * (j 3).val = (j 3).val by omega)
theorem half_emb (w : Fin 2) (j : S1x32x512.Idx) : inHalf ((rHalf w).emb j) = j := by
  have h0 := (j 0).isLt
  change (j 0).val < 1 at h0
  refine funext fun a => ?_
  match a with
  | ⟨0, _⟩ => exact Fin.ext (show 0 = (j 0).val by omega)
  | ⟨1, _⟩ => exact Fin.ext (show 0 + 1 * (j 1).val = (j 1).val by omega)
  | ⟨2, _⟩ => exact Fin.ext (show 0 + 1 * (j 2).val = (j 2).val by omega)

/-- A family of sixteen blocks, as values at the indices of the buffer (the same in both halves). -/
def allS {e' : EltTy} (v : Fin 16 → Vec F S1x1x32x512 e') : Vec F S2x16x32x512 e' := fun i => v (i 1) (inSlot i)
theorem allS_emb {e' : EltTy} (v : Fin 16 → Vec F S1x1x32x512 e') (w : Fin 2) (e : Fin 16) : (fun j => allS v ((rSlot w e).emb j)) = v e := by
  funext j; unfold allS; rw [(slot_emb w e j).1, (slot_emb w e j).2]
/-- Buffer contents at which the buffer reads given values. -/
def fill {s : Shape} {e' : EltTy} (m : Memref sig .tc .vmem s e') (X : Vec F s e') : m.view.ty.Contents (Elt F) :=
  m.view.write (Elt F) (fun _ => Classical.arbitrary _) X Finset.univ
theorem read_fill {s : Shape} {e' : EltTy} (m : Memref sig .tc .vmem s e') (X : Vec F s e') : m.view.read (Elt F) (fill m X) = X :=
  View.read_write_univ _ _

theorem slot_pts {e' : EltTy} (c : Dev nD) (m : Memref sig .tc .vmem S2x16x32x512 e') (w : Fin 2) (e : Fin 16) (v : Fin 16 → Vec F S1x1x32x512 e') :
    slotO c m w e (v e) = (m.view.loc (c : Thread nD τ) ↦[(m.view.slice (rSlot w e)).set]{fullShare} fill m (allS v) : sProp 𝕄) := by
  rw [← owns_slice_read (c : Thread nD τ) m fullShare (rSlot w e) (fun _ => rfl) (fill m (allS v)), read_fill, allS_emb]; rfl
theorem slab_pts {e' : EltTy} (c : Dev nD) (m : Memref sig .tc .vmem S2x16x32x512 e') (w : Fin 2) (v : Fin 16 → Vec F S1x1x32x512 e') :
    slabO c m w v = (m.view.loc (c : Thread nD τ) ↦[(m.view.slice (rSlab w)).set]{fullShare} fill m (allS v) : sProp 𝕄) := by
  unfold slabO
  rw [bigSep_congr fun e _ => slot_pts c m w e v]
  rw [show (m.view.slice (rSlab w)).set = (Finset.univ : Finset (Fin 16)).biUnion fun e => (m.view.slice (rSlot w e)).set by
    rw [View.set_slice, slab_eq, Finset.map_eq_image, Finset.biUnion_image]
    exact Finset.biUnion_congr rfl fun e _ => by rw [View.set_slice, Finset.map_eq_image]]
  refine (pointsTo_biUnion _ _ fun e _ e' _ h => View.disjoint_slice ?_).symm
  exact slot_disj (w, e) (w, e') fun h' => h (Prod.ext_iff.mp h').2
theorem half_pts (c : Dev nD) (w : Fin 2) (q : PosShare TreeShare) (v : Vec F S1x32x512 .bf16) :
    halfO c w q v = (mGs.view.loc (c : Thread nD τ) ↦[(mGs.view.slice (rHalf w)).set]{q} fill mGs (fun i => v (inHalf i)) : sProp 𝕄) := by
  rw [← owns_slice_read (c : Thread nD τ) mGs q (rHalf w) (fun _ => rfl) (fill mGs fun i => v (inHalf i)), read_fill]
  unfold halfO
  rw [show (fun j => (fun i => v (inHalf i)) ((rHalf w).emb j)) = v from funext fun j => congrArg v (half_emb w j)]
/-- A half of the finished blocks, share by share. -/
theorem half_leaves (c : Dev nD) (w : Fin 2) (v : Vec F S1x32x512 .bf16) :
    halfO c w fullShare v = (bigSep Finset.univ fun d : Fin 16 => halfO c w (ShareLeaves.leaf 4 fullShare d) v : sProp 𝕄) := by
  rw [half_pts, ShareLeaves.pointsTo_leaves _ _ 4 fullShare]
  exact bigSep_congr fun d _ => (half_pts c w _ v).symm

theorem slabA_of {e' : EltTy} (c : Dev nD) (m : Memref sig .tc .vmem S2x16x32x512 e') (w : Fin 2) :
    slabA (F := F) c m w ⊢ (iprop(∃ v, slabO c m w v) : sProp 𝕄) := by
  unfold slabA slabO slotA
  exact bigSep_exists_pi Finset.univ fun e v => slotO c m w e v
theorem slotO_A {e' : EltTy} (c : Dev nD) (m : Memref sig .tc .vmem S2x16x32x512 e') (w : Fin 2) (e : Fin 16) (v : Vec F S1x1x32x512 e') :
    slotO c m w e v ⊢ (slotA (F := F) c m w e : sProp 𝕄) := by unfold slotA; iintro H; iexists v; iexact H

/-! ## What a transfer writes -/

/-- Contents written through a view onto contents read elsewhere agree with any contents that read the same. -/
theorem pts_landed {s : Shape} (c : Dev nD) (dst : Memref sig .tc .vmem s .bf16) (fd g : dst.view.ty.Contents (Elt F)) (u : Vec F s .bf16)
    (h : u = dst.view.read (Elt F) g) :
    (dst.view.loc (c : Thread nD τ) ↦[dst.view.set]{fullShare} (dst.view.write (Elt F) fd u Finset.univ) : sProp 𝕄)
      = (dst.view.loc (c : Thread nD τ) ↦[dst.view.set]{fullShare} g) :=
  pointsTo_congr fun i hi => by
    rw [View.set, Finset.mem_map] at hi
    obtain ⟨x, -, rfl⟩ := hi
    exact View.eq_of_read_eq (by rw [View.read_write_univ, h])

theorem read_slot {m : Memref sig .tc .vmem S2x16x32x512 .bf16} (w : Fin 2) (e : Fin 16) (v : Fin 16 → Vec F S1x1x32x512 .bf16) :
    (slot m w e).view.read (Elt F) (fill m (allS v)) = fun j => v e (Shape.reshapeEquiv squeezes_S1x1x32x512_S32x512.numel_eq j) := by
  have h : (slot m w e).view.read (Elt F) (fill m (allS v))
      = fun j => m.view.read (Elt F) (fill m (allS v)) ((rSlot w e).emb (Shape.reshapeEquiv squeezes_S1x1x32x512_S32x512.numel_eq j)) := rfl
  rw [h, read_fill]
  exact funext fun j => congrFun (allS_emb v w e) _
theorem read_slab {m : Memref sig .tc .vmem S2x16x32x512 .bf16} (w : Fin 2) (v : Fin 16 → Vec F S1x1x32x512 .bf16) :
    (slab m w).view.read (Elt F) (fill m (allS v)) = fun j => allS v ((rSlab w).emb (Shape.reshapeEquiv squeezes_S1x16x32x512_S16x32x512.numel_eq j)) := by
  have h : (slab m w).view.read (Elt F) (fill m (allS v))
      = fun j => m.view.read (Elt F) (fill m (allS v)) ((rSlab w).emb (Shape.reshapeEquiv squeezes_S1x16x32x512_S16x32x512.numel_eq j)) := rfl
  rw [h, read_fill]
theorem read_half (w : Fin 2) (v : Vec F S1x32x512 .bf16) :
    (half mGs w).view.read (Elt F) (fill mGs fun i => v (inHalf i)) = fun j => v (Shape.reshapeEquiv squeezes_S1x32x512_S32x512.numel_eq j) := by
  have h : (half mGs w).view.read (Elt F) (fill mGs fun i => v (inHalf i))
      = fun j => mGs.view.read (Elt F) (fill mGs fun i => v (inHalf i)) ((rHalf w).emb (Shape.reshapeEquiv squeezes_S1x32x512_S32x512.numel_eq j)) := rfl
  rw [h, read_fill]
  exact funext fun j => congrArg v (half_emb w _)
theorem hToS_at (v : Vec F S1x32x512 .bf16) (j : S32x512.Idx) :
    hToS v (Shape.reshapeEquiv squeezes_S1x1x32x512_S32x512.numel_eq j) = v (Shape.reshapeEquiv squeezes_S1x32x512_S32x512.numel_eq j) := by
  show v (Shape.reshapeEquiv _ (Shape.reshapeEquiv _ (Shape.reshapeEquiv _ j))) = _
  rw [Shape.reshapeEquiv_reshapeEquiv, Shape.reshapeEquiv_reshapeEquiv]

/-! ## The shared facts -/

variable (X : Dev nD → Vec F S1024x32 .bf16) (W : Dev nD → Vec F S32x1024 .bf16)

/-- The order of waiting. -/
def ranked : sProp 𝕄 := levAts L lv
instance ranked_persistent : BI.Persistent (ranked (F := F)) := by unfold ranked; infer_instance

/-- What every device knows throughout: the invariants of all the semaphores, under the names `K`, that each has
    started, and the order of waiting. -/
def known (K : Dev nD × Cl → ℕ) : sProp 𝕄 :=
  iprop((bigSep Finset.univ fun y : Dev nD × Cl => cellInv ER (sched X W) (K y) (cell y.1 y.2))
    ∗ (bigSep Finset.univ fun y : Dev nD × Cl => reached ER (cell y.1 y.2) 0) ∗ ranked (F := F))
instance known_persistent (K : Dev nD × Cl → ℕ) : BI.Persistent (known X W K) := by unfold known; infer_instance

theorem takeOne {I : Type} [DecidableEq I] {s : Finset I} {i : I} (hi : i ∈ s) {Φ : I → sProp 𝕄} : bigSep s Φ ⊢ Φ i := bigSep_elim hi

theorem inv_at (K : Dev nD × Cl → ℕ) (c : Dev nD) (x : Cl) : known X W K ⊢ cellInv ER (sched X W) (K (c, x)) (cell c x) := by
  classical
  unfold known
  iintro ⟨H, -, -⟩
  have h := takeOne (Φ := fun y : Dev nD × Cl => (cellInv ER (sched X W) (K y) (cell y.1 y.2) : sProp 𝕄)) (Finset.mem_univ (c, x))
  iapply h
  iexact H
theorem reached_at (K : Dev nD × Cl → ℕ) (c : Dev nD) (x : Cl) : known X W K ⊢ (reached ER (cell c x) 0 : sProp 𝕄) := by
  classical
  unfold known
  iintro ⟨-, H, -⟩
  have h := takeOne (Φ := fun y : Dev nD × Cl => (reached ER (cell y.1 y.2) 0 : sProp 𝕄)) (Finset.mem_univ (c, x))
  iapply h
  iexact H
theorem waits_at (K : Dev nD × Cl → ℕ) (c : Dev nD) (x : Cl) (l : List (Dev nD × Cl)) (hl : Above (lvl x) l) :
    known X W K ⊢ (MayWait (c : Thread nD τ) (csem x) () (Os l) : sProp 𝕄) := by
  unfold known ranked
  iintro ⟨-, -, H⟩
  iapply (mayWait c x l hl)
  iexact H

/-- What device `c` still owes, whatever it has waited for. -/
def ow (c : Dev nD) (l : List (Dev nD × Cl)) : sProp 𝕄 := iprop(∃ Wt : Waits sig Unit, owes (c : Thread nD τ) (Os l) Wt)
/-- The right to pay duty `d` of the semaphore `x` of device `c`. -/
def tok (c : Dev nD) (x : Cl) (d : Fin 16) : sProp 𝕄 := dutyTok ER (cell c x) 0 d
/-- The credit of a semaphore's round. -/
def crd (c : Dev nD) (x : Cl) : sProp 𝕄 := cred (tallyAt (cell c x) () ((dutiesOf x).card * amt x))
/-- The right to wait at a semaphore. -/
def pos (c : Dev nD) (x : Cl) : sProp 𝕄 := atPos ER (cell c x) 0 ∅ 0
/-- The counter of a semaphore back at zero. -/
def zer (c : Dev nD) (x : Cl) : sProp 𝕄 := semVal (cell c x) 0

/-- A semaphore that is not used, or no longer, has its counter at zero. -/
theorem close_at (K : Dev nD × Cl → ℕ) (c : Dev nD) (x : Cl) (R : ℕ) (h : ∀ r, R ≤ r → (sched X W).duties (cell c x) r = ∅) :
    iprop(known X W K ∗ atPos ER (cell c x) R ∅ 0) ⊢ (iprop(|={Set.univ}=> zer c x) : sProp 𝕄) := by
  unfold zer
  iintro ⟨#HR, H⟩
  iapply (Rounds.cell_close ER (sched X W) (Set.mem_univ (K (c, x))) (fun h => h) (R := R) h)
  isplitr
  · iapply (inv_at X W K c x); iexact HR
  iexact H
theorem close_unused (K : Dev nD × Cl → ℕ) (c : Dev nD) (x : Cl) (h : dutiesOf x = ∅) :
    iprop(known X W K ∗ pos c x) ⊢ (iprop(|={Set.univ}=> zer c x) : sProp 𝕄) :=
  close_at X W K c x 0 fun r _ => by
    rcases Nat.eq_zero_or_pos r with rfl | hr
    · rw [duties_cell, h]
    · exact duties_later X W _ r hr

/-! ## The rules -/

/-- A signal to device `c'`. -/
theorem wp_sig (K : Dev nD × Cl → ℕ) (c c' : Dev nD) (d : Fin 16) (l : List (Dev nD × Cl)) (Q : PUnit → sProp 𝕄) :
    iprop(known X W K ∗ ow c ((c', bar) :: l) ∗ tok c' bar d ∗ barPay c' d ∗ (ow c l -∗ Q ⟨⟩)) ⊢ WP c (sigStep (F := F) c') Q := by
  unfold WP sigStep semSignalWord ow tok
  iintro ⟨#HR, ⟨%Wt, HO⟩, Ht, Hp, HQ⟩
  iapply (Rounds.wp_signal 𝒱₀ ER (sched X W) (c : Thread nD τ) none (dst := (c' : Thread nD τ)) (κ := K (c', bar))
      (d := d) (r := 0) (by rw [show ((c' : Thread nD τ), SemLoc.reg (sig.barrier 0 rfl)) = cell c' bar from rfl, duties_cell]; exact Finset.mem_univ _)
      ((amount_cell X W c' bar 0 d).trans (by decide)) () (Os l) rfl) $$ [HO Ht Hp]
  · isplitr; · iapply (inv_at X W K c' bar); iexact HR
    isplitl [HO]; · iexact HO
    isplitl [Ht]; · iexact Ht
    isplitl [Hp]
    · rw [show ((c' : Thread nD τ), SemLoc.reg (sig.barrier 0 rfl)) = cell c' bar from rfl, payload_cell, show pay X W c' bar d = barPay c' d from rfl]; iexact Hp
    iapply (reached_at X W K c' bar); iexact HR
  iintro HO
  rw [wp_ret]; imodintro
  iapply HQ
  iexists Wt; iexact HO

/-- The wait at the barrier: what the sixteen signals hand over. -/
theorem wp_barrier (K : Dev nD × Cl → ℕ) (c : Dev nD) (l : List (Dev nD × Cl)) (hl : Above 1 l) (Q : PUnit → sProp 𝕄) :
    iprop(known X W K ∗ ow c l ∗ crd c bar ∗ pos c bar ∗ (ow c l -∗ (bigSep Finset.univ fun d => barPay c d) -∗ zer c bar -∗ Q ⟨⟩))
      ⊢ WP c (semWaitWord (sig.barrier 0 rfl) 16#32 : P F PUnit) Q := by
  have hmw : known X W K ⊢ MayWait (c : Thread nD τ) (csem bar) () (Os l) := waits_at X W K c bar l hl
  have hexp : 0 + (16#32).toInt.toNat = (sched X W).expect ((c : Thread nD τ), csem bar) 0 := by
    rw [show ((c : Thread nD τ), csem bar) = cell c bar from rfl, expect_cell]
    show _ = (Finset.univ : Finset (Fin 16)).card * 1
    rw [Finset.card_univ, Fintype.card_fin]; rfl
  have hrest : (bigSep ((sched X W).duties ((c : Thread nD τ), csem bar) 0 \ ∅) fun d => (sched X W).payload ((c : Thread nD τ), csem bar) 0 d)
      = (bigSep Finset.univ fun d => barPay c d : sProp 𝕄) := by
    rw [Finset.sdiff_empty, show ((c : Thread nD τ), csem bar) = cell c bar from rfl, duties_cell]
    exact bigSep_congr fun d _ => payload_cell X W c bar 0 d
  unfold WP semWaitWord ow crd pos
  iintro ⟨#HR, ⟨%Wt, HO⟩, Hc, Hat, HQ⟩
  iapply (Rounds.wp_wait_rest_token 𝒱₀ ER (sched X W) (c : Thread nD τ) none (sm := csem bar) (κ := K (c, bar))
      (wpE_semWait_eq 𝒱₀ (c : Thread nD τ) none Set.univ) (Set.mem_univ _) () (O := Os l) (W := Wt) (R := 0) (m := 0) (T := ∅)
      hexp) $$ [Hc HO Hat]
  · isplitr; · iapply (inv_at X W K c bar); iexact HR
    isplitl [Hc]; · iexact Hc
    isplitl [HO]; · iexact HO
    isplitr; · iapply hmw; iexact HR
    iexact Hat
  iintro ⟨HO, Hat, -, Hpay⟩
  imod (close_at X W K c bar (0 + 1) (duties_later X W _)) $$ [Hat] with Hz
  · isplitr; · iexact HR
    iexact Hat
  rw [wp_ret]; imodintro
  ihave Hpay := (Entails.of_eq hrest) $$ Hpay
  iapply HQ $$ [HO] Hpay Hz
  iexists _; iexact HO

/-- The wait for a transfer: what its semaphore holds. -/
theorem wp_waitAt (K : Dev nD × Cl → ℕ) (c : Dev nD) (x : Cl) (ss : DmaSem sig) (hx : csem x = .dma ss) {s s' : Shape}
    (src : Memref sig .tc .vmem s .bf16) (dst : Memref sig .tc .vmem s' .bf16) (hs : src.view.WordExact) (hd : dst.view.WordExact)
    (hN : dst.view.dmaCredit = amt x) (h0 : dutiesOf x = {0}) (l : List (Dev nD × Cl)) (hl : Above (lvl x) l) (Q : PUnit → sProp 𝕄) :
    iprop(known X W K ∗ ow c l ∗ crd c x ∗ pos c x ∗ (ow c l -∗ pay X W c x 0 -∗ zer c x -∗ Q ⟨⟩))
      ⊢ WP c (wait src dst hs hd ss : P F PUnit) Q := by
  have hmw : known X W K ⊢ MayWait (c : Thread nD τ) (csem x) () (Os l) := waits_at X W K c x l hl
  have hexp : 0 + dst.view.dmaCredit = (sched X W).expect ((c : Thread nD τ), SemLoc.dma ss) 0 := by
    rw [← hx, expect_cell, h0, Finset.card_singleton, Nat.zero_add, hN, Nat.one_mul]
  have hcr : (dutiesOf x).card * amt x = dst.view.dmaCredit := by rw [h0, Finset.card_singleton, hN, Nat.one_mul]
  have hrest : (bigSep ((sched X W).duties ((c : Thread nD τ), csem x) 0 \ ∅) fun d => (sched X W).payload ((c : Thread nD τ), csem x) 0 d)
      = (pay X W c x 0 : sProp 𝕄) := by
    rw [Finset.sdiff_empty, show ((c : Thread nD τ), csem x) = cell c x from rfl, duties_cell, h0, bigSep_singleton, payload_cell]
  unfold WP ow crd pos
  rw [hcr]
  iintro ⟨#HR, ⟨%Wt, HO⟩, Hc, Hat, HQ⟩
  iapply (Rounds.wp_wait_rest_token 𝒱₀ ER (sched X W) (c : Thread nD τ) none (sm := .dma ss) (κ := K (c, x))
      (wpE_waitDma2_eq 𝒱₀ (c : Thread nD τ) none Set.univ) (Set.mem_univ _) () (O := Os l) (W := Wt) (R := 0) (m := 0) (T := ∅) hexp) $$ [Hc HO Hat]
  · rw [← hx]
    isplitr; · iapply (inv_at X W K c x); iexact HR
    isplitl [Hc]; · iexact Hc
    isplitl [HO]; · iexact HO
    isplitr; · iapply hmw; iexact HR
    iexact Hat
  rw [← hx]
  iintro ⟨HO, Hat, -, Hpay⟩
  imod (close_at X W K c x (0 + 1) (duties_later X W _)) $$ [Hat] with Hz
  · isplitr; · iexact HR
    iexact Hat
  rw [wp_ret]; imodintro
  ihave Hpay := (Entails.of_eq hrest) $$ Hpay
  iapply HQ $$ [HO] Hpay Hz
  iexists _; iexact HO

/-- A transfer to device `c'`: its source goes to its send semaphore, the filled destination to its receive semaphore. -/
theorem wp_sendAt (K : Dev nD × Cl → ℕ) (c c' : Dev nD) (x y : Cl) (ss rs : DmaSem sig) (hx : csem x = .dma ss) (hy : csem y = .dma rs) {s : Shape}
    (src dst : Memref sig .tc .vmem s .bf16) (hs : src.view.WordExact) (hd : dst.view.WordExact)
    (hN : dst.view.dmaCredit = amt y) (hNx : amt x = amt y) (h0x : dutiesOf x = {0}) (h0y : dutiesOf y = {0})
    (q : PosShare TreeShare) (fs : src.view.ty.Contents (Elt F)) (fd : dst.view.ty.Contents (Elt F))
    (hpx : (src.view.loc (c : Thread nD τ) ↦[src.view.set]{q} fs : sProp 𝕄) ⊢ pay X W c x 0)
    (hpy : (dst.view.loc (c' : Thread nD τ) ↦[dst.view.set]{fullShare} (dst.view.write (Elt F) fd (src.view.read (Elt F) fs) Finset.univ) : sProp 𝕄) ⊢ pay X W c' y 0)
    (l : List (Dev nD × Cl)) (Q : PUnit → sProp 𝕄) :
    iprop(known X W K ∗ ow c ((c', y) :: l) ∗ (src.view.loc (c : Thread nD τ) ↦[src.view.set]{q} fs) ∗ (dst.view.loc (c' : Thread nD τ) ↦[dst.view.set]{fullShare} fd)
        ∗ tok c x 0 ∗ tok c' y 0 ∗ (ow c l -∗ crd c x -∗ Q ⟨⟩))
      ⊢ WP c (send src dst hs hd c' ss rs : P F PUnit) Q := by
  have hcr : (dutiesOf x).card * amt x = amt y := by rw [h0x, Finset.card_singleton, hNx, Nat.one_mul]
  unfold WP ow crd tok
  rw [hcr]
  iintro ⟨#HR, ⟨%Wt, HO⟩, Hs, Hd, Hx, Hy, HQ⟩
  iapply (Rounds.wp_send_pointsTo 𝒱₀ ER (sched X W) (c : Thread nD τ) none (c' := (Dev.tc c' : Thread nD τ)) (sS := .dma ss) (sem := .dma rs) (κ₁ := K (c, x)) (κ₂ := K (c', y))
    (r₁ := 0) (r₂ := 0) (d₁ := 0) (d₂ := 0) (fs := fs) (fd := fd) (q := q)
    (by rw [← hx, duties_cell, h0x]; exact Finset.mem_singleton_self _) (by rw [← hy, duties_cell, h0y]; exact Finset.mem_singleton_self _)
    () () (amt y) hN (by rw [← hx, amount_cell, hNx]) (by rw [← hy, amount_cell]) (Os l) (by rw [← hy]) (W := Wt)
    (by rw [← hx, payload_cell]; exact hpx)
    (by rw [← hy, payload_cell]; exact hpy)) $$ [Hs Hd HO Hx Hy]
  · rw [← hx, ← hy]
    isplitr; · iapply (inv_at X W K c x); iexact HR
    isplitr; · iapply (inv_at X W K c' y); iexact HR
    isplitl [Hs]; · iexact Hs
    isplitl [Hd]; · iexact Hd
    isplitl [HO]; · iexact HO
    isplitl [Hx]; · iexact Hx
    isplitr; · iapply (reached_at X W K c x); iexact HR
    isplitl [Hy]; · iexact Hy
    iapply (reached_at X W K c' y); iexact HR
  rw [← hx]
  iintro ⟨Hc, HO⟩
  rw [wp_ret]; imodintro
  iapply HQ $$ [HO] Hc
  iexists Wt; iexact HO

/-! ## The four kinds of transfer -/

/-- A half sent to the partner. -/
theorem wp_sendSlab (K : Dev nD × Cl → ℕ) (c c' : Dev nD) (x y : DC) (ss rs : DmaSem sig) (hx : csem (some x) = .dma ss) (hy : csem (some y) = .dma rs)
    (m m' : Memref sig .tc .vmem S2x16x32x512 .bf16) (w : Fin 2) (hs : (slab m w).view.WordExact) (hd : (slab m' w).view.WordExact) (v : Fin 16 → Vec F S1x1x32x512 .bf16)
    (hN : (slab m' w).view.dmaCredit = amt (some y)) (hNx : amt (some x) = amt (some y)) (h0x : dutiesOf (some x) = {0}) (h0y : dutiesOf (some y) = {0})
    (hpx : dmaPay X W c x = slabO c m w v) (hpy : dmaPay X W c' y = slabO c' m' w v) (l : List (Dev nD × Cl)) (Q : PUnit → sProp 𝕄) :
    iprop(known X W K ∗ ow c ((c', some y) :: l) ∗ slabO c m w v ∗ slabA (F := F) c' m' w
        ∗ tok c (some x) 0 ∗ tok c' (some y) 0 ∗ (ow c l -∗ crd c (some x) -∗ Q ⟨⟩))
      ⊢ WP c (send (slab m w) (slab m' w) hs hd c' ss rs : P F PUnit) Q := by
  have es : (slab m w).view.set = (m.view.slice (rSlab w)).set := View.set_reshape _ _
  have ed : (slab m' w).view.set = (m'.view.slice (rSlab w)).set := View.set_reshape _ _
  iintro ⟨HR, HO, Hs, Hd, Hx, Hy, HQ⟩
  ihave Hd := (slabA_of (F := F) c' m' w) $$ Hd
  icases Hd with ⟨%u, Hd⟩
  ihave Hs := (Entails.of_eq (slab_pts c m w v)) $$ Hs
  ihave Hd := (Entails.of_eq (slab_pts c' m' w u)) $$ Hd
  iapply (wp_sendAt X W K c c' (some x) (some y) ss rs hx hy (slab m w) (slab m' w) hs hd hN hNx h0x h0y fullShare (fill m (allS v)) (fill m' (allS u))
    (by rw [es]; show _ ⊢ dmaPay X W c x; rw [hpx, slab_pts])
    (by
      rw [pts_landed c' (slab m' w) (fill m' (allS u)) (fill m' (allS v)) _ ((read_slab w v).trans (read_slab w v).symm), ed]
      show _ ⊢ dmaPay X W c' y; rw [hpy, slab_pts]) l Q)
  isplitl [HR]; · iexact HR
  isplitl [HO]; · iexact HO
  isplitl [Hs]; · rw [es]; iexact Hs
  isplitl [Hd]; · rw [ed]; iexact Hd
  isplitl [Hx]; · iexact Hx
  isplitl [Hy]; · iexact Hy
  iexact HQ

/-- A block sent to a member of the group. -/
theorem wp_sendSlot (K : Dev nD × Cl → ℕ) (c c' : Dev nD) (x y : DC) (ss rs : DmaSem sig) (hx : csem (some x) = .dma ss) (hy : csem (some y) = .dma rs)
    (m m' : Memref sig .tc .vmem S2x16x32x512 .bf16) (w : Fin 2) (e e' : Fin 16) (hs : (slot m w e).view.WordExact) (hd : (slot m' w e').view.WordExact) (v : Vec F S1x1x32x512 .bf16)
    (hN : (slot m' w e').view.dmaCredit = amt (some y)) (hNx : amt (some x) = amt (some y)) (h0x : dutiesOf (some x) = {0}) (h0y : dutiesOf (some y) = {0})
    (hpx : dmaPay X W c x = slotO c m w e v) (hpy : dmaPay X W c' y = slotO c' m' w e' v) (l : List (Dev nD × Cl)) (Q : PUnit → sProp 𝕄) :
    iprop(known X W K ∗ ow c ((c', some y) :: l) ∗ slotO c m w e v ∗ slotA (F := F) c' m' w e'
        ∗ tok c (some x) 0 ∗ tok c' (some y) 0 ∗ (ow c l -∗ crd c (some x) -∗ Q ⟨⟩))
      ⊢ WP c (send (slot m w e) (slot m' w e') hs hd c' ss rs : P F PUnit) Q := by
  have es : (slot m w e).view.set = (m.view.slice (rSlot w e)).set := View.set_reshape _ _
  have ed : (slot m' w e').view.set = (m'.view.slice (rSlot w e')).set := View.set_reshape _ _
  unfold slotA
  iintro ⟨HR, HO, Hs, ⟨%u, Hd⟩, Hx, Hy, HQ⟩
  ihave Hs := (Entails.of_eq (slot_pts c m w e fun _ => v)) $$ Hs
  ihave Hd := (Entails.of_eq (slot_pts c' m' w e' fun _ => u)) $$ Hd
  iapply (wp_sendAt X W K c c' (some x) (some y) ss rs hx hy (slot m w e) (slot m' w e') hs hd hN hNx h0x h0y fullShare (fill m (allS fun _ => v)) (fill m' (allS fun _ => u))
    (by rw [es]; show _ ⊢ dmaPay X W c x; rw [hpx, slot_pts c m w e fun _ => v])
    (by
      rw [pts_landed c' (slot m' w e') (fill m' (allS fun _ => u)) (fill m' (allS fun _ => v)) _ ((read_slot w e fun _ => v).trans (read_slot w e' fun _ => v).symm), ed]
      show _ ⊢ dmaPay X W c' y; rw [hpy, slot_pts c' m' w e' fun _ => v]) l Q)
  isplitl [HR]; · iexact HR
  isplitl [HO]; · iexact HO
  isplitl [Hs]; · rw [es]; iexact Hs
  isplitl [Hd]; · rw [ed]; iexact Hd
  isplitl [Hx]; · iexact Hx
  isplitl [Hy]; · iexact Hy
  iexact HQ

/-- A finished block sent to a member of the group, from a share of it. -/
theorem wp_sendHalf (K : Dev nD × Cl → ℕ) (c c' : Dev nD) (x y : DC) (ss rs : DmaSem sig) (hx : csem (some x) = .dma ss) (hy : csem (some y) = .dma rs)
    (m' : Memref sig .tc .vmem S2x16x32x512 .bf16) (w : Fin 2) (e' : Fin 16) (hs : (half mGs w).view.WordExact) (hd : (slot m' w e').view.WordExact) (q : PosShare TreeShare) (v : Vec F S1x32x512 .bf16)
    (hN : (slot m' w e').view.dmaCredit = amt (some y)) (hNx : amt (some x) = amt (some y)) (h0x : dutiesOf (some x) = {0}) (h0y : dutiesOf (some y) = {0})
    (hpx : dmaPay X W c x = halfO c w q v) (hpy : dmaPay X W c' y = slotO c' m' w e' (hToS v)) (l : List (Dev nD × Cl)) (Q : PUnit → sProp 𝕄) :
    iprop(known X W K ∗ ow c ((c', some y) :: l) ∗ halfO c w q v ∗ slotA (F := F) c' m' w e'
        ∗ tok c (some x) 0 ∗ tok c' (some y) 0 ∗ (ow c l -∗ crd c (some x) -∗ Q ⟨⟩))
      ⊢ WP c (send (half mGs w) (slot m' w e') hs hd c' ss rs : P F PUnit) Q := by
  have es : (half mGs w).view.set = (mGs.view.slice (rHalf w)).set := View.set_reshape _ _
  have ed : (slot m' w e').view.set = (m'.view.slice (rSlot w e')).set := View.set_reshape _ _
  unfold slotA
  iintro ⟨HR, HO, Hs, ⟨%u, Hd⟩, Hx, Hy, HQ⟩
  ihave Hs := (Entails.of_eq (half_pts c w q v)) $$ Hs
  ihave Hd := (Entails.of_eq (slot_pts c' m' w e' fun _ => u)) $$ Hd
  iapply (wp_sendAt X W K c c' (some x) (some y) ss rs hx hy (half mGs w) (slot m' w e') hs hd hN hNx h0x h0y q (fill mGs fun i => v (inHalf i)) (fill m' (allS fun _ => u))
    (by rw [es]; show _ ⊢ dmaPay X W c x; rw [hpx, half_pts])
    (by
      rw [pts_landed c' (slot m' w e') (fill m' (allS fun _ => u)) (fill m' (allS fun _ => hToS v)) _
        ((read_half w v).trans ((funext fun j => (hToS_at v j).symm).trans (read_slot w e' fun _ => hToS v).symm)), ed]
      show _ ⊢ dmaPay X W c' y; rw [hpy, slot_pts c' m' w e' fun _ => hToS v]) l Q)
  isplitl [HR]; · iexact HR
  isplitl [HO]; · iexact HO
  isplitl [Hs]; · rw [es]; iexact Hs
  isplitl [Hd]; · rw [ed]; iexact Hd
  isplitl [Hx]; · iexact Hx
  isplitl [Hy]; · iexact Hy
  iexact HQ

end Cert.KernelIdeal.Gelu

end
-- ==== Proof.Phases.lean ====
/- The phases of the kernel on one device: what each uses and what it leaves. -/
module

public import proofs.«01_k».proof.Proof.Moves

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .bf16) (W : Dev nD → Vec F S32x1024 .bf16)

theorem wp_seq (c : Dev nD) {α β : Type} (p : P F α) (k : α → P F β) (Q : β → sProp 𝕄) :
    (WP c p fun a => WP c (k a) Q) ⊢ WP c (p >>= k) Q := Entails.of_eq (WP_bind c p k Q).symm

theorem sepL_comm {α β : Type} {A : α → β → sProp 𝕄} : ∀ (l : List α) (l' : List β),
    sepL l (fun a => sepL l' (A a)) ⊢ sepL l' fun b => sepL l fun a => A a b
  | [], l' => by
    iintro -
    iapply (sepL_mono (A := fun _ => iprop(emp)) (B := fun _ => iprop(emp)) (l := l') fun _ _ => BI.Entails.refl _)
    iapply (sepL_emp l')
  | a :: l, l' => by
    show iprop(sepL l' (A a) ∗ sepL l fun a => sepL l' (A a)) ⊢ sepL l' fun b => iprop(A a b ∗ sepL l fun a => A a b)
    iintro ⟨H, HL⟩
    iapply (sepL_zip l')
    isplitl [H]; · iexact H
    iapply (sepL_comm l l')
    iexact HL

theorem pOff_fun (c : Dev nD) (w : Fin 2) (e : Fin 16) : pOff c w e = ![32 * (partnerD (mineD c e)).val, 512 * w.val] := funext (pOff_eq c w e)
theorem mOff_fun (c : Dev nD) (w : Fin 2) (e : Fin 16) : mOff c w e = ![32 * (mineD c e).val, 512 * w.val] := funext (mOff_eq c w e)
theorem oOff_fun (c : Dev nD) (w : Fin 2) : oOff c w = ![32 * c.val, 512 * w.val] := funext (oOff_eq c w)

theorem es15_ne : ∀ d ∈ es15, d ≠ 0 := by decide
theorem opp_ne {d : Fin 16} (h : d ≠ 0) : opp d ≠ 0 := fun h' => h ((opp_eq_zero d).mp h')
theorem once {i : Fin 4} {w : Fin 2} {e : Fin 16} (h : e ≠ 0) : dutiesOf (some (.inr (i, w, e))) = {0} := if_neg h

theorem slabO_list {e' : EltTy} (c : Dev nD) (m : Memref sig .tc .vmem S2x16x32x512 e') (w : Fin 2) (v : Fin 16 → Vec F S1x1x32x512 e') :
    slabO c m w v = (sepL es16 fun e => slotO c m w e (v e) : sProp 𝕄) := by unfold slabO; exact all16' _
theorem slabA_list {e' : EltTy} (c : Dev nD) (m : Memref sig .tc .vmem S2x16x32x512 e') (w : Fin 2) :
    slabA (F := F) c m w = (sepL es16 fun e => slotA (F := F) c m w e : sProp 𝕄) := by unfold slabA; exact all16' _

/-- A semaphore's credit with the right to wait at it. -/
def armed (c : Dev nD) (x : Cl) : sProp 𝕄 := iprop(crd c x ∗ pos c x)

/-! ## The credits -/

theorem cr_slot_S1 : ∀ (w : Fin 2) (e : Fin 16), (slot mS1b w e).view.dmaCredit = NS := by decide +kernel
theorem cr_slot_R1 : ∀ (w : Fin 2) (e : Fin 16), (slot mR1b w e).view.dmaCredit = NS := by decide +kernel
theorem cr_slot_F : ∀ (w : Fin 2) (e : Fin 16), (slot mFb w e).view.dmaCredit = NS := by decide +kernel
theorem cr_half : ∀ w : Fin 2, (half mGs w).view.dmaCredit = NS := by decide +kernel
theorem cr_slab_Xs : ∀ w : Fin 2, (slab mXs w).view.dmaCredit = NL := by decide +kernel
theorem cr_slab_Xr : ∀ w : Fin 2, (slab mXr w).view.dmaCredit = NL := by decide +kernel
theorem cr_slab_F : ∀ w : Fin 2, (slab mFb w).view.dmaCredit = NL := by decide +kernel
theorem cr_slab_P : ∀ w : Fin 2, (slab mPb w).view.dmaCredit = NL := by decide +kernel

/-! ## What is received is what was sent -/

theorem pay_rx (c : Dev nD) (w : Fin 2) : dmaPay X W (partnerD c) (.inl (⟨1, by decide⟩, w)) = slabO (partnerD c) mXr w (xsV X W c w) := by
  have h : xrV X W (partnerD c) w = xsV X W c w := funext fun e => by unfold xrV; rw [partner_partner]
  rw [← h]; rfl
theorem pay_rf (c : Dev nD) (w : Fin 2) : dmaPay X W (partnerD c) (.inl (⟨3, by decide⟩, w)) = slabO (partnerD c) mPb w (fbV X W c w) := by
  have h : pbV X W (partnerD c) w = fbV X W c w := funext fun e => by unfold pbV; rw [partner_partner]
  rw [← h]; rfl
theorem pay_r1 (c : Dev nD) (w : Fin 2) (d : Fin 16) :
    dmaPay X W (mineD c d) (.inr (⟨1, by decide⟩, w, opp d)) = slotO (mineD c d) mR1b w (opp d) (s1V X W c w d) := by
  have h : r1V X W (mineD c d) w (opp d) = s1V X W c w d := by unfold r1V; rw [mine_opp, opp_opp]
  rw [← h]; rfl
theorem pay_r2 (c : Dev nD) (w : Fin 2) (d : Fin 16) :
    dmaPay X W (mineD c d) (.inr (⟨3, by decide⟩, w, opp d)) = slotO (mineD c d) mFb w (opp d) (hToS (gsV X W c w)) := by
  have h : fbV X W (mineD c d) w (opp d) = hToS (gsV X W c w) := by unfold fbV; rw [mine_opp]
  rw [← h]; rfl

/-! ## The exchange with the partner -/

theorem xs_step (c : Dev nD) (w : Fin 2) (e : Fin 16) (Q : PUnit → sProp 𝕄) :
    iprop(emp ∗ partO c (partV X W c) ∗ slotA (F := F) c mXs w e ∗ (partO c (partV X W c) -∗ slotO c mXs w e (xsV X W c w e) -∗ Q ⟨⟩)) ⊢ WP c (xsStep c w e) Q := by
  unfold xsStep xsV
  iintro ⟨-, HP, HA, HQ⟩
  iapply (wp_seq c)
  iapply (wp_ldPart c _ (pOff_inb c w e) _ _)
  isplitl [HP]; · iexact HP
  iintro HP
  iapply (wp_seq c)
  iapply (wp_ldSlotA c mXs w e _)
  isplitl [HA]; · iexact HA
  iintro %v HA
  iapply (wp_stSlot16 c mXs _ w e _ _)
  isplitl [HA]; · iexact HA
  iintro HA
  iapply HQ $$ HP HA

theorem xs_loop (c : Dev nD) (w : Fin 2) (Q : PUnit → sProp 𝕄) :
    iprop(emp ∗ partO c (partV X W c) ∗ slabA (F := F) c mXs w ∗ (partO c (partV X W c) -∗ slabO c mXs w (xsV X W c w) -∗ Q ⟨⟩))
      ⊢ WP c (forL es16 (xsStep c w)) Q := by
  rw [slabO_list, slabA_list]
  exact wp_forL c (R := iprop(emp)) (fun _ => True) (fun _ => partO c (partV X W c)) (fun e => slotA (F := F) c mXs w e) (fun e => slotO c mXs w e (xsV X W c w e))
    (xsStep c w) (fun e _ _ Q => xs_step X W c w e Q) es16 (fun _ _ => trivial) Q

/-- The rights to send half `w` to the partner. -/
def xTok (c : Dev nD) (w : Fin 2) : sProp 𝕄 := iprop(tok c (sx w) 0 ∗ tok (partnerD c) (rx w) 0)

theorem x_send (K : Dev nD × Cl → ℕ) (c : Dev nD) (w : Fin 2) (l : List (Fin 2)) (Q : PUnit → sProp 𝕄) :
    iprop(known X W K ∗ ow c (debts1 c (w :: l)) ∗ ((slabO c mXs w (xsV X W c w) ∗ slabA (F := F) (partnerD c) mXr w) ∗ xTok c w)
        ∗ (ow c (debts1 c l) -∗ crd c (sx w) -∗ Q ⟨⟩)) ⊢ WP c (xSend c w) Q := by
  unfold xSend xTok
  iintro ⟨#HR, HO, ⟨⟨Hs, Hd⟩, Hx, Hy⟩, HQ⟩
  iapply (wp_sendSlab X W K c (partnerD c) (.inl (⟨0, by decide⟩, w)) (.inl (⟨1, by decide⟩, w)) (sem2 cc0_scratch9 w) (sem2 cc0_scratch10 w) rfl rfl mXs mXr w (slab_exact (Memref.isWhole_whole _) w) (slab_exact (Memref.isWhole_whole _) w) (xsV X W c w) (cr_slab_Xr w) rfl rfl rfl rfl
    (pay_rx X W c w) (debts1 c l) Q)
  isplitr; · iexact HR
  isplitl [HO]; · iexact HO
  isplitl [Hs]; · iexact Hs
  isplitl [Hd]; · iexact Hd
  isplitl [Hx]; · iexact Hx
  isplitl [Hy]; · iexact Hy
  iexact HQ

/-! ## The combined blocks and their sending -/

theorem comb_step (c : Dev nD) (w : Fin 2) (e : Fin 16) (Q : PUnit → sProp 𝕄) :
    iprop(emp ∗ partO c (partV X W c) ∗ (slotA (F := F) c mCmb w e ∗ slotO c mXr w e (xrV X W c w e))
        ∗ (partO c (partV X W c) -∗ (slotO c mCmb w e (cmbV X W c w e) ∗ slotO c mXr w e (xrV X W c w e)) -∗ Q ⟨⟩)) ⊢ WP c (combStep c w e) Q := by
  unfold combStep cmbV
  iintro ⟨-, HP, ⟨HA, HX⟩, HQ⟩
  iapply (wp_seq c)
  iapply (wp_ldPart c _ (mOff_inb c w e) _ _)
  isplitl [HP]; · iexact HP
  iintro HP
  iapply (wp_seq c)
  iapply (wp_ldSlot c mXr w e _ _)
  isplitl [HX]; · iexact HX
  iintro HX
  iapply (wp_seq c)
  iapply (wp_ldSlotA c mCmb w e _)
  isplitl [HA]; · iexact HA
  iintro %v HA
  iapply (wp_stSlot32 c mCmb w e _ _)
  isplitl [HA]; · iexact HA
  iintro HA
  iapply HQ $$ HP
  isplitl [HA] <;> iassumption

/-- What sending one combined block uses besides the block and its landing place. -/
def sTok (c : Dev nD) (w : Fin 2) (d : Fin 16) : sProp 𝕄 :=
  iprop(slotA (F := F) c mS1b w d ∗ tok c (s1 w d) 0 ∗ tok (mineD c d) (r1 w (opp d)) 0)

theorem s_step (K : Dev nD × Cl → ℕ) (c : Dev nD) (w : Fin 2) (r : List (Dev nD × Cl)) (d : Fin 16) (l : List (Fin 16)) (h : d ≠ 0) (Q : PUnit → sProp 𝕄) :
    iprop(known X W K ∗ ow c (sDebts c w (d :: l) ++ r) ∗ (slotO c mCmb w d (cmbV X W c w d) ∗ sTok c w d ∗ slotA (F := F) (mineD c d) mR1b w (opp d))
        ∗ (ow c (sDebts c w l ++ r) -∗ (slotO c mCmb w d (cmbV X W c w d) ∗ crd c (s1 w d)) -∗ Q ⟨⟩)) ⊢ WP c (sStep c w d) Q := by
  unfold sStep sTok
  iintro ⟨#HR, HO, ⟨HC, ⟨HS, Hx, Hy⟩, Hd⟩, HQ⟩
  iapply (wp_seq c)
  iapply (wp_ldSlot c mCmb w d _ _)
  isplitl [HC]; · iexact HC
  iintro HC
  iapply (wp_seq c)
  iapply (wp_ldSlotA c mS1b w d _)
  isplitl [HS]; · iexact HS
  iintro %v HS
  iapply (wp_seq c)
  iapply (wp_stSlot16 c mS1b _ w d _ _)
  isplitl [HS]; · iexact HS
  iintro HS
  iapply (wp_sendSlot X W K c (mineD c d) (.inr (⟨0, by decide⟩, w, d)) (.inr (⟨1, by decide⟩, w, opp d)) (sem216 cc0_scratch11 w d) (sem216 cc0_scratch12 w (opp d)) rfl rfl mS1b mR1b w d (opp d) (slot_exact (Memref.isWhole_whole _) w d) (slot_exact (Memref.isWhole_whole _) w (opp d)) (s1V X W c w d) (cr_slot_R1 w (opp d)) rfl
    (once h) (once (opp_ne h)) rfl
    (pay_r1 X W c w d) (sDebts c w l ++ r) Q)
  isplitr; · iexact HR
  isplitl [HO]; · iexact HO
  isplitl [HS]; · iexact HS
  isplitl [Hd]; · iexact Hd
  isplitl [Hx]; · iexact Hx
  isplitl [Hy]; · iexact Hy
  iintro HO Hc
  iapply HQ $$ HO
  isplitl [HC] <;> iassumption

theorem debts2_cons (c : Dev nD) (w : Fin 2) (l : List (Fin 2)) : debts2 c (w :: l) = sDebts c w es15 ++ debts2 c l := by
  unfold debts2; rw [List.flatMap_cons, List.append_assoc]
theorem debts3_cons (c : Dev nD) (w : Fin 2) (l : List (Fin 2)) : debts3 c (w :: l) = gDebts c w es15 ++ debts3 c l := by
  unfold debts3; rw [List.flatMap_cons, List.append_assoc]

def use1 (c : Dev nD) (w : Fin 2) : sProp 𝕄 := iprop(armed c (rx w) ∗ slabA (F := F) c mCmb w ∗ sepL es15 (sTok (F := F) c w))
def left1 (c : Dev nD) (w : Fin 2) : sProp 𝕄 :=
  iprop(zer c (rx w) ∗ slabO c mXr w (xrV X W c w) ∗ sepL es15 fun d => slotO c mCmb w d (cmbV X W c w d))

theorem phase1_at (K : Dev nD × Cl → ℕ) (c : Dev nD) (w : Fin 2) (l : List (Fin 2)) (Q : PUnit → sProp 𝕄) :
    iprop(known X W K ∗ (ow c (debts2 c (w :: l)) ∗ partO c (partV X W c))
        ∗ (use1 c w ∗ sepL es15 fun d => slotA (F := F) (mineD c d) mR1b w (opp d))
        ∗ ((ow c (debts2 c l) ∗ partO c (partV X W c)) -∗ ((left1 X W c w ∗ slotO c mCmb w 0 (cmbV X W c w 0)) ∗ sepL es15 fun d => crd c (s1 w d)) -∗ Q ⟨⟩))
      ⊢ WP c (phase1 c w) Q := by
  unfold phase1 xWait use1 left1 armed
  rw [slabO_list, slabA_list, debts2_cons]
  iintro ⟨#HR, ⟨HO, HP⟩, ⟨⟨⟨Hc, Hp⟩, HA, HT⟩, HD⟩, HQ⟩
  iapply (wp_seq c)
  iapply (wp_waitAt X W K c (rx w) (sem2 cc0_scratch10 w) rfl (slab mXs w) (slab mXr w) (slab_exact (Memref.isWhole_whole _) w) (slab_exact (Memref.isWhole_whole _) w) (cr_slab_Xr w) rfl (sDebts c w es15 ++ debts2 c l)
    (above_append (above_s c w _ (show 2 < 3 from Nat.lt_succ_self 2)) (above_2 c _ (show 2 < 3 from Nat.lt_succ_self 2))) _)
  isplitr; · iexact HR
  isplitl [HO]; · iexact HO
  isplitl [Hc]; · iexact Hc
  isplitl [Hp]; · iexact Hp
  iintro HO HX Hz
  ihave HX := (Entails.of_eq (show pay X W c (rx w) 0 = (sepL es16 fun e => slotO c mXr w e (xrV X W c w e) : sProp 𝕄) from slabO_list c mXr w _)) $$ HX
  iapply (wp_seq c)
  iapply (wp_forL c (R := iprop(emp)) (fun _ => True) (fun _ => partO c (partV X W c)) (fun e => iprop(slotA (F := F) c mCmb w e ∗ slotO c mXr w e (xrV X W c w e)))
    (fun e => iprop(slotO c mCmb w e (cmbV X W c w e) ∗ slotO c mXr w e (xrV X W c w e))) (combStep c w) (fun e _ _ Q => comb_step X W c w e Q) es16 (fun _ _ => trivial) _)
  isplitr; · iempintro
  isplitl [HP]; · iexact HP
  isplitl [HA HX]
  · iapply (sepL_zip es16); isplitl [HA] <;> iassumption
  iintro HP HB
  ihave HB := (sepL_sep es16) $$ HB
  icases HB with ⟨HC, HX⟩
  ihave HC := (Entails.of_eq (show (sepL es16 fun e => slotO c mCmb w e (cmbV X W c w e) : sProp 𝕄)
    = iprop(slotO c mCmb w 0 (cmbV X W c w 0) ∗ sepL es15 fun e => slotO c mCmb w e (cmbV X W c w e)) from rfl)) $$ HC
  icases HC with ⟨HC0, HC⟩
  iapply (wp_forL c (R := known X W K) (fun d => d ≠ 0) (fun l' => ow c (sDebts c w l' ++ debts2 c l))
    (fun d => iprop(slotO c mCmb w d (cmbV X W c w d) ∗ sTok c w d ∗ slotA (F := F) (mineD c d) mR1b w (opp d)))
    (fun d => iprop(slotO c mCmb w d (cmbV X W c w d) ∗ crd c (s1 w d))) (sStep c w) (fun d l' h Q => s_step X W K c w (debts2 c l) d l' h Q) es15 es15_ne Q)
  isplitr; · iexact HR
  isplitl [HO]; · iexact HO
  isplitl [HC HT HD]
  · iapply (sepL_zip es15)
    isplitl [HC]; · iexact HC
    iapply (sepL_zip es15)
    isplitl [HT] <;> iassumption
  iintro HO HB
  ihave HB := (sepL_sep es15) $$ HB
  icases HB with ⟨HC, Hc⟩
  iapply HQ $$ [HO HP]
  · isplitl [HO]; · iexact HO
    iexact HP
  isplitr [Hc]; swap; · iexact Hc
  isplitr [HC0]; swap; · iexact HC0
  isplitl [Hz]; · iexact Hz
  isplitl [HX]; · iexact HX
  iexact HC

/-! ## The totals, the finished blocks and their sending -/

theorem tot_step (K : Dev nD × Cl → ℕ) (c : Dev nD) (w : Fin 2) (l : List (Dev nD × Cl)) (hl : Above 3 l) (j : Fin 16) (t : FVec F S32x512 .f32) (h : j ≠ 0)
    (Q : FVec F S32x512 .f32 → sProp 𝕄) :
    iprop(known X W K ∗ ow c l ∗ armed c (r1 w j) ∗ (ow c l -∗ (zer c (r1 w j) ∗ slotO c mR1b w j (r1V X W c w j)) -∗ Q (addf t (ofB (r1V X W c w j)))))
      ⊢ WP c (totStep w t j) Q := by
  unfold totStep armed
  iintro ⟨#HR, HO, ⟨Hc, Hp⟩, HQ⟩
  iapply (wp_seq c)
  iapply (wp_waitAt X W K c (r1 w j) (sem216 cc0_scratch12 w j) rfl (slot mS1b w j) (slot mR1b w j) (slot_exact (Memref.isWhole_whole _) w j) (slot_exact (Memref.isWhole_whole _) w j) (cr_slot_R1 w j) (once h) l hl _)
  isplitr; · iexact HR
  isplitl [HO]; · iexact HO
  isplitl [Hc]; · iexact Hc
  isplitl [Hp]; · iexact Hp
  iintro HO HX Hz
  ihave HX := (Entails.of_eq (show pay X W c (r1 w j) 0 = (slotO c mR1b w j (r1V X W c w j) : sProp 𝕄) from rfl)) $$ HX
  iapply (wp_seq c)
  iapply (wp_ldSlot c mR1b w j _ _)
  isplitl [HX]; · iexact HX
  iintro HX
  iapply (WP_pure c _ Q)
  iapply HQ $$ HO
  isplitl [Hz] <;> iassumption

theorem out_step (c : Dev nD) (w : Fin 2) (g : FVec F S32x512 .f32) (Q : PUnit → sProp 𝕄) :
    iprop((tileA (F := F) c c w ∗ halfA (F := F) c w ∗ slotA (F := F) c mFb w 0)
        ∗ ((tileO c c w g ∗ halfO c w fullShare (gToB g) ∗ slotO c mFb w 0 (hToS (gToB g))) -∗ Q ⟨⟩)) ⊢ WP c (outStep c w g) Q := by
  unfold outStep
  iintro ⟨⟨HT, HH, HS⟩, HQ⟩
  iapply (wp_seq c)
  iapply (wp_ldTileA c c w _ _ (oOff_fun c w) _)
  isplitl [HT]; · iexact HT
  iintro %v HT
  iapply (wp_seq c)
  iapply (wp_stTile c c w _ _ (oOff_fun c w) _ _)
  isplitl [HT]; · iexact HT
  iintro HT
  iapply (wp_seq c)
  iapply (wp_ldHalfA c w _)
  isplitl [HH]; · iexact HH
  iintro %v HH
  iapply (wp_seq c)
  iapply (wp_stHalf c _ w _ _)
  isplitl [HH]; · iexact HH
  iintro HH
  iapply (wp_seq c)
  iapply (wp_ldHalf c w _ _)
  isplitl [HH]; · iexact HH
  iintro HH
  iapply (wp_seq c)
  iapply (wp_ldSlotA c mFb w _ _)
  isplitl [HS]; · iexact HS
  iintro %v HS
  iapply (wp_stSlot16 c mFb _ w _ _ _)
  isplitl [HS]; · iexact HS
  iintro HS
  iapply HQ
  isplitl [HT]; · iexact HT
  isplitl [HH]; · iexact HH
  iexact HS

/-- The rights to send one finished block. -/
def gTok (c : Dev nD) (w : Fin 2) (d : Fin 16) : sProp 𝕄 := iprop(tok c (s2 w d) 0 ∗ tok (mineD c d) (r2 w (opp d)) 0)

theorem g_step (K : Dev nD × Cl → ℕ) (c : Dev nD) (w : Fin 2) (r : List (Dev nD × Cl)) (d : Fin 16) (l : List (Fin 16)) (h : d ≠ 0) (Q : PUnit → sProp 𝕄) :
    iprop(known X W K ∗ ow c (gDebts c w (d :: l) ++ r)
        ∗ (halfO c w (ShareLeaves.leaf 4 fullShare d) (gsV X W c w) ∗ gTok c w d ∗ slotA (F := F) (mineD c d) mFb w (opp d))
        ∗ (ow c (gDebts c w l ++ r) -∗ crd c (s2 w d) -∗ Q ⟨⟩)) ⊢ WP c (gSend c w d) Q := by
  unfold gSend gTok
  iintro ⟨#HR, HO, ⟨HS, ⟨Hx, Hy⟩, Hd⟩, HQ⟩
  iapply (wp_sendHalf X W K c (mineD c d) (.inr (⟨2, by decide⟩, w, d)) (.inr (⟨3, by decide⟩, w, opp d)) (sem216 cc0_scratch13 w d) (sem216 cc0_scratch14 w (opp d)) rfl rfl mFb w (opp d) (half_exact (Memref.isWhole_whole _) w) (slot_exact (Memref.isWhole_whole _) w (opp d))
    (ShareLeaves.leaf 4 fullShare d) (gsV X W c w) (cr_slot_F w (opp d)) rfl (once h) (once (opp_ne h)) rfl
    (pay_r2 X W c w d) (gDebts c w l ++ r) Q)
  isplitr; · iexact HR
  isplitl [HO]; · iexact HO
  isplitl [HS]; · iexact HS
  isplitl [Hd]; · iexact Hd
  isplitl [Hx]; · iexact Hx
  isplitl [Hy]; · iexact Hy
  iexact HQ

def use2 (c : Dev nD) (w : Fin 2) : sProp 𝕄 :=
  iprop((sepL es15 fun j => armed c (r1 w j)) ∗ (tileA (F := F) c c w ∗ halfA (F := F) c w ∗ slotA (F := F) c mFb w 0) ∗ sepL es15 (gTok (F := F) c w))
def left2 (c : Dev nD) (w : Fin 2) : sProp 𝕄 :=
  iprop(slotO c mCmb w 0 (cmbV X W c w 0) ∗ (sepL es15 fun j => iprop(zer c (r1 w j) ∗ slotO c mR1b w j (r1V X W c w j)))
    ∗ tileO c c w (gV X W c w) ∗ halfO c w (ShareLeaves.leaf 4 fullShare (0 : Fin 16)) (gsV X W c w))

theorem phase2_at (K : Dev nD × Cl → ℕ) (c : Dev nD) (w : Fin 2) (l : List (Fin 2)) (Q : PUnit → sProp 𝕄) :
    iprop(known X W K ∗ ow c (debts3 c (w :: l))
        ∗ (slotO c mCmb w 0 (cmbV X W c w 0) ∗ use2 c w ∗ sepL es15 fun d => slotA (F := F) (mineD c d) mFb w (opp d))
        ∗ (ow c (debts3 c l) -∗ (left2 X W c w ∗ slotO c mFb w 0 (fbV X W c w 0) ∗ sepL es15 fun d => crd c (s2 w d)) -∗ Q ⟨⟩))
      ⊢ WP c (phase2 c w) Q := by
  unfold phase2 use2 left2
  rw [debts3_cons, fbV_zero]
  iintro ⟨#HR, HO, ⟨HC, ⟨HA, HT, HG⟩, HD⟩, HQ⟩
  iapply (wp_seq c)
  iapply (wp_ldSlot c mCmb w _ _ _)
  isplitl [HC]; · iexact HC
  iintro HC
  iapply (wp_seq c)
  iapply (wp_foldL c (R := known X W K) (ow c (gDebts c w es15 ++ debts3 c l)) (fun j => armed c (r1 w j))
    (fun j => iprop(zer c (r1 w j) ∗ slotO c mR1b w j (r1V X W c w j))) (totStep w) (fun t j => addf t (ofB (r1V X W c w j))) (fun j => j ≠ 0)
    (fun j t h Q => tot_step X W K c w _ (above_append (above_g c w _ (by decide)) (above_3 c _ (by decide))) j t h Q) es15 es15_ne _ _)
  isplitr; · iexact HR
  isplitl [HO]; · iexact HO
  isplitl [HA]; · iexact HA
  iintro HO HB
  iapply (wp_seq c)
  iapply (out_step c w (gV X W c w) _)
  isplitl [HT]; · iexact HT
  iintro ⟨HT, HH, HS⟩
  ihave HH := (Entails.of_eq (show (halfO c w fullShare (gToB (gV X W c w)) : sProp 𝕄) = halfO c w fullShare (gsV X W c w) from rfl)) $$ HH
  ihave HH := (Entails.of_eq ((half_leaves c w (gsV X W c w)).trans (all16 _))) $$ HH
  icases HH with ⟨HH0, HH⟩
  iapply (wp_forL c (R := known X W K) (fun d => d ≠ 0) (fun l' => ow c (gDebts c w l' ++ debts3 c l))
    (fun d => iprop(halfO c w (ShareLeaves.leaf 4 fullShare d) (gsV X W c w) ∗ gTok c w d ∗ slotA (F := F) (mineD c d) mFb w (opp d)))
    (fun d => crd c (s2 w d)) (gSend c w) (fun d l' h Q => g_step X W K c w (debts3 c l) d l' h Q) es15 es15_ne Q)
  isplitr; · iexact HR
  isplitl [HO]; · iexact HO
  isplitl [HH HG HD]
  · iapply (sepL_zip es15)
    isplitl [HH]; · iexact HH
    iapply (sepL_zip es15)
    isplitl [HG] <;> iassumption
  iintro HO Hc
  ihave HO := (Entails.of_eq (show ow c (gDebts c w [] ++ debts3 c l) = (ow c (debts3 c l) : sProp 𝕄) from rfl)) $$ HO
  iapply HQ $$ HO
  isplitr [HS Hc]; swap
  · isplitl [HS]
    · iapply (Entails.of_eq (show (slotO c mFb w 0 (hToS (gToB (gV X W c w))) : sProp 𝕄) = slotO c mFb w 0 (hToS (gsV X W c w)) from rfl)); iexact HS
    iexact Hc
  isplitl [HC]; · iexact HC
  isplitl [HB]; · iexact HB
  isplitl [HT]; · iexact HT
  iexact HH0

/-! ## The finished blocks of the group, and their sending to the partner -/

theorem recv_step (K : Dev nD × Cl → ℕ) (c : Dev nD) (w : Fin 2) (l : List (Dev nD × Cl)) (hl : Above 4 l) (j : Fin 16) (h : j ≠ 0) (Q : PUnit → sProp 𝕄) :
    iprop(known X W K ∗ ow c l ∗ (armed c (r2 w j) ∗ tileA (F := F) c (mineD c j) w)
        ∗ (ow c l -∗ ((zer c (r2 w j) ∗ tileO c (mineD c j) w (outV X W c (mineD c j) w)) ∗ slotO c mFb w j (fbV X W c w j)) -∗ Q ⟨⟩))
      ⊢ WP c (recvStep c w j) Q := by
  unfold recvStep armed
  rw [outV_mine X W c w j h]
  iintro ⟨#HR, HO, ⟨⟨Hc, Hp⟩, HT⟩, HQ⟩
  iapply (wp_seq c)
  iapply (wp_waitAt X W K c (r2 w j) (sem216 cc0_scratch14 w j) rfl (half mGs w) (slot mFb w j) (half_exact (Memref.isWhole_whole _) w) (slot_exact (Memref.isWhole_whole _) w j) (cr_slot_F w j) (once h) l hl _)
  isplitr; · iexact HR
  isplitl [HO]; · iexact HO
  isplitl [Hc]; · iexact Hc
  isplitl [Hp]; · iexact Hp
  iintro HO HX Hz
  ihave HX := (Entails.of_eq (show pay X W c (r2 w j) 0 = (slotO c mFb w j (fbV X W c w j) : sProp 𝕄) from rfl)) $$ HX
  iapply (wp_seq c)
  iapply (wp_ldSlot c mFb w j _ _)
  isplitl [HX]; · iexact HX
  iintro HX
  iapply (wp_seq c)
  iapply (wp_ldTileA c (mineD c j) w _ _ (mOff_fun c w j) _)
  isplitl [HT]; · iexact HT
  iintro %v HT
  iapply (wp_stTile c (mineD c j) w _ _ (mOff_fun c w j) _ _)
  isplitl [HT]; · iexact HT
  iintro HT
  iapply HQ $$ HO
  isplitr [HX]; swap; · iexact HX
  isplitl [Hz] <;> iassumption

def use3 (c : Dev nD) (w : Fin 2) : sProp 𝕄 :=
  iprop((sepL es15 fun j => iprop(armed c (r2 w j) ∗ tileA (F := F) c (mineD c j) w)) ∗ tok c (sf w) 0 ∗ tok (partnerD c) (rf w) 0)
def left3 (c : Dev nD) (w : Fin 2) : sProp 𝕄 := sepL es15 fun j => iprop(zer c (r2 w j) ∗ tileO c (mineD c j) w (outV X W c (mineD c j) w))

theorem phase3_at (K : Dev nD × Cl → ℕ) (c : Dev nD) (w : Fin 2) (l : List (Fin 2)) (Q : PUnit → sProp 𝕄) :
    iprop(known X W K ∗ ow c (debts4 c (w :: l))
        ∗ (slotO c mFb w 0 (fbV X W c w 0) ∗ use3 c w ∗ slabA (F := F) (partnerD c) mPb w)
        ∗ (ow c (debts4 c l) -∗ (left3 X W c w ∗ crd c (sf w)) -∗ Q ⟨⟩))
      ⊢ WP c (phase3 c w) Q := by
  unfold phase3 fSend use3 left3
  iintro ⟨#HR, HO, ⟨HF, ⟨HA, Hx, Hy⟩, HD⟩, HQ⟩
  iapply (wp_seq c)
  iapply (wp_forL c (R := known X W K) (fun d => d ≠ 0) (fun _ => ow c (debts4 c (w :: l)))
    (fun j => iprop(armed c (r2 w j) ∗ tileA (F := F) c (mineD c j) w))
    (fun j => iprop((zer c (r2 w j) ∗ tileO c (mineD c j) w (outV X W c (mineD c j) w)) ∗ slotO c mFb w j (fbV X W c w j))) (recvStep c w)
    (fun j _ h Q => recv_step X W K c w _ (above_4 c _ (by decide)) j h Q) es15 es15_ne _)
  isplitr; · iexact HR
  isplitl [HO]; · iexact HO
  isplitl [HA]; · iexact HA
  iintro HO HB
  ihave HB := (sepL_sep es15) $$ HB
  icases HB with ⟨HB, HFs⟩
  iapply (wp_sendSlab X W K c (partnerD c) (.inl (⟨2, by decide⟩, w)) (.inl (⟨3, by decide⟩, w)) (sem2 cc0_scratch15 w) (sem2 cc0_scratch16 w) rfl rfl mFb mPb w (slab_exact (Memref.isWhole_whole _) w) (slab_exact (Memref.isWhole_whole _) w) (fbV X W c w) (cr_slab_P w) rfl rfl rfl rfl
    (pay_rf X W c w) (debts4 c l) Q)
  isplitr; · iexact HR
  isplitl [HO]; · iexact HO
  isplitl [HF HFs]
  · iapply (Entails.of_eq ((slabO_list c mFb w (fbV X W c w)).trans
      (show _ = iprop(slotO c mFb w 0 (fbV X W c w 0) ∗ sepL es15 fun e => slotO c mFb w e (fbV X W c w e)) from rfl)).symm)
    isplitl [HF] <;> iassumption
  isplitl [HD]; · iexact HD
  isplitl [Hx]; · iexact Hx
  isplitl [Hy]; · iexact Hy
  iintro HO Hc
  iapply HQ $$ HO
  isplitl [HB] <;> iassumption

/-! ## The finished blocks of the partner's group -/

theorem pOut_step (c : Dev nD) (w : Fin 2) (e : Fin 16) (Q : PUnit → sProp 𝕄) :
    iprop(emp ∗ emp ∗ (slotO c mPb w e (pbV X W c w e) ∗ tileA (F := F) c (partnerD (mineD c e)) w)
        ∗ (emp -∗ (slotO c mPb w e (pbV X W c w e) ∗ tileO c (partnerD (mineD c e)) w (outV X W c (partnerD (mineD c e)) w)) -∗ Q ⟨⟩))
      ⊢ WP c (pOutStep c w e) Q := by
  unfold pOutStep
  rw [outV_partner X W c w e]
  iintro ⟨-, -, ⟨HX, HT⟩, HQ⟩
  iapply (wp_seq c)
  iapply (wp_ldSlot c mPb w e _ _)
  isplitl [HX]; · iexact HX
  iintro HX
  iapply (wp_seq c)
  iapply (wp_ldTileA c (partnerD (mineD c e)) w _ _ (pOff_fun c w e) _)
  isplitl [HT]; · iexact HT
  iintro %v HT
  iapply (wp_stTile c (partnerD (mineD c e)) w _ _ (pOff_fun c w e) _ _)
  isplitl [HT]; · iexact HT
  iintro HT
  iapply HQ $$ []
  · iempintro
  isplitl [HX] <;> iassumption

def use4 (c : Dev nD) (w : Fin 2) : sProp 𝕄 := iprop(armed c (rf w) ∗ sepL es16 fun e => tileA (F := F) c (partnerD (mineD c e)) w)
def left4 (c : Dev nD) (w : Fin 2) : sProp 𝕄 :=
  iprop(zer c (rf w) ∗ slabO c mPb w (pbV X W c w) ∗ sepL es16 fun e => tileO c (partnerD (mineD c e)) w (outV X W c (partnerD (mineD c e)) w))

theorem phase4_at (K : Dev nD × Cl → ℕ) (c : Dev nD) (w : Fin 2) (Q : PUnit → sProp 𝕄) :
    iprop(known X W K ∗ ow c [] ∗ use4 c w ∗ (ow c [] -∗ left4 X W c w -∗ Q ⟨⟩)) ⊢ WP c (phase4 c w) Q := by
  unfold phase4 use4 left4 armed
  rw [slabO_list]
  iintro ⟨#HR, HO, ⟨⟨Hc, Hp⟩, HT⟩, HQ⟩
  iapply (wp_seq c)
  iapply (wp_waitAt X W K c (rf w) (sem2 cc0_scratch16 w) rfl (slab mFb w) (slab mPb w) (slab_exact (Memref.isWhole_whole _) w) (slab_exact (Memref.isWhole_whole _) w) (cr_slab_P w) rfl [] (above_nil _) _)
  isplitr; · iexact HR
  isplitl [HO]; · iexact HO
  isplitl [Hc]; · iexact Hc
  isplitl [Hp]; · iexact Hp
  iintro HO HX Hz
  ihave HX := (Entails.of_eq (show pay X W c (rf w) 0 = (sepL es16 fun e => slotO c mPb w e (pbV X W c w e) : sProp 𝕄) from slabO_list c mPb w _)) $$ HX
  iapply (wp_forL c (R := iprop(emp)) (fun _ => True) (fun _ => iprop(emp)) (fun e => iprop(slotO c mPb w e (pbV X W c w e) ∗ tileA (F := F) c (partnerD (mineD c e)) w))
    (fun e => iprop(slotO c mPb w e (pbV X W c w e) ∗ tileO c (partnerD (mineD c e)) w (outV X W c (partnerD (mineD c e)) w))) (pOutStep c w)
    (fun e _ _ Q => pOut_step X W c w e Q) es16 (fun _ _ => trivial) Q)
  isplitr; · iempintro
  isplitr; · iempintro
  isplitl [HX HT]
  · iapply (sepL_zip es16); isplitl [HX] <;> iassumption
  iintro - HB
  ihave HB := (sepL_sep es16) $$ HB
  icases HB with ⟨HX, HT⟩
  iapply HQ $$ HO
  isplitl [Hz]; · iexact Hz
  isplitl [HX] <;> iassumption

/-! ## The transfers sent have left -/

theorem done_slab (K : Dev nD × Cl → ℕ) (c : Dev nD) (x : Cl) (ss : DmaSem sig) (hx : csem x = .dma ss) {s s' : Shape}
    (src : Memref sig .tc .vmem s .bf16) (dst : Memref sig .tc .vmem s' .bf16) (hs : src.view.WordExact) (hd : dst.view.WordExact)
    (hN : dst.view.dmaCredit = amt x) (h0 : dutiesOf x = {0}) (Q : PUnit → sProp 𝕄) :
    iprop(known X W K ∗ ow c [] ∗ armed c x ∗ (ow c [] -∗ (zer c x ∗ pay X W c x 0) -∗ Q ⟨⟩)) ⊢ WP c (wait src dst hs hd ss : P F PUnit) Q := by
  unfold armed
  iintro ⟨#HR, HO, ⟨Hc, Hp⟩, HQ⟩
  iapply (wp_waitAt X W K c x ss hx src dst hs hd hN h0 [] (above_nil _) Q)
  isplitr; · iexact HR
  isplitl [HO]; · iexact HO
  isplitl [Hc]; · iexact Hc
  isplitl [Hp]; · iexact Hp
  iintro HO HX Hz
  iapply HQ $$ HO
  isplitl [Hz] <;> iassumption

/-- A semaphore used up, with what it held. -/
def spent (c : Dev nD) (x : Cl) : sProp 𝕄 := iprop(zer c x ∗ pay X W c x 0)

theorem done_at (K : Dev nD × Cl → ℕ) (c : Dev nD) (Q : PUnit → sProp 𝕄) :
    iprop(known X W K ∗ ow c [] ∗ ((sepL ws fun w => armed c (sx w)) ∗ (sepL ws fun w => sepL es15 fun d => armed c (s1 w d))
          ∗ (sepL ws fun w => sepL es15 fun d => armed c (s2 w d)) ∗ sepL ws fun w => armed c (sf w))
        ∗ (ow c [] -∗ ((sepL ws fun w => spent X W c (sx w)) ∗ (sepL ws fun w => sepL es15 fun d => spent X W c (s1 w d))
          ∗ (sepL ws fun w => sepL es15 fun d => spent X W c (s2 w d)) ∗ sepL ws fun w => spent X W c (sf w)) -∗ Q ⟨⟩))
      ⊢ WP c donePhase Q := by
  unfold donePhase
  iintro ⟨#HR, HO, ⟨H1, H2, H3, H4⟩, HQ⟩
  iapply (wp_seq c)
  iapply (wp_forL c (R := known X W K) (fun _ => True) (fun _ => ow c []) (fun w => armed c (sx w)) (fun w => spent X W c (sx w)) xDone
    (fun w _ _ Q => done_slab X W K c (sx w) (sem2 cc0_scratch9 w) rfl (slab mXr w) (slab mXs w) (slab_exact (Memref.isWhole_whole _) w) (slab_exact (Memref.isWhole_whole _) w) (cr_slab_Xs w) rfl Q) ws (fun _ _ => trivial) _)
  isplitr; · iexact HR
  isplitl [HO]; · iexact HO
  isplitl [H1]; · iexact H1
  iintro HO H1
  iapply (wp_seq c)
  iapply (wp_forL c (R := known X W K) (fun _ => True) (fun _ => ow c []) (fun w => sepL es15 fun d => armed c (s1 w d)) (fun w => sepL es15 fun d => spent X W c (s1 w d))
    (fun w => forL es15 (sDone w)) (fun w _ _ Q => wp_forL c (R := known X W K) (fun d => d ≠ 0) (fun _ => ow c []) (fun d => armed c (s1 w d)) (fun d => spent X W c (s1 w d))
      (sDone w) (fun d _ h Q => done_slab X W K c (s1 w d) (sem216 cc0_scratch11 w d) rfl (slot mR1b w (opp d)) (slot mS1b w d) (slot_exact (Memref.isWhole_whole _) w (opp d)) (slot_exact (Memref.isWhole_whole _) w d) (cr_slot_S1 w d) (once h) Q) es15 es15_ne Q) ws (fun _ _ => trivial) _)
  isplitr; · iexact HR
  isplitl [HO]; · iexact HO
  isplitl [H2]; · iexact H2
  iintro HO H2
  iapply (wp_seq c)
  iapply (wp_forL c (R := known X W K) (fun _ => True) (fun _ => ow c []) (fun w => sepL es15 fun d => armed c (s2 w d)) (fun w => sepL es15 fun d => spent X W c (s2 w d))
    (fun w => forL es15 (gDone w)) (fun w _ _ Q => wp_forL c (R := known X W K) (fun d => d ≠ 0) (fun _ => ow c []) (fun d => armed c (s2 w d)) (fun d => spent X W c (s2 w d))
      (gDone w) (fun d _ h Q => done_slab X W K c (s2 w d) (sem216 cc0_scratch13 w d) rfl (slot mFb w (opp d)) (half mGs w) (slot_exact (Memref.isWhole_whole _) w (opp d)) (half_exact (Memref.isWhole_whole _) w) (cr_half w) (once h) Q) es15 es15_ne Q) ws (fun _ _ => trivial) _)
  isplitr; · iexact HR
  isplitl [HO]; · iexact HO
  isplitl [H3]; · iexact H3
  iintro HO H3
  iapply (wp_forL c (R := known X W K) (fun _ => True) (fun _ => ow c []) (fun w => armed c (sf w)) (fun w => spent X W c (sf w)) fDone
    (fun w _ _ Q => done_slab X W K c (sf w) (sem2 cc0_scratch15 w) rfl (slab mPb w) (slab mFb w) (slab_exact (Memref.isWhole_whole _) w) (slab_exact (Memref.isWhole_whole _) w) (cr_slab_F w) rfl Q) ws (fun _ _ => trivial) _)
  isplitr; · iexact HR
  isplitl [HO]; · iexact HO
  isplitl [H4]; · iexact H4
  iintro HO H4
  iapply HQ $$ HO
  isplitl [H1]; · iexact H1
  isplitl [H2]; · iexact H2
  isplitl [H3] <;> iassumption

end Cert.KernelIdeal.Gelu

end
-- ==== Proof.Body.lean ====
/- The kernel body on one device: from its buffers, its rights and what it owes, to the result. -/
module

public import proofs.«01_k».proof.Proof.Phases

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .bf16) (W : Dev nD → Vec F S32x1024 .bf16)

/-! ## The product -/

/-- The device's columns of the first operand, as staged; -/
def inX (c : Dev nD) (x : Vec F S1024x32 .bf16) : sProp 𝕄 := (((c : Thread nD τ).loc cc0_stg0_0) ↦{fullShare} x)
/-- its rows of the second. -/
def inW (c : Dev nD) (w : Vec F S32x1024 .bf16) : sProp 𝕄 := (((c : Thread nD τ).loc cc0_stg1_0) ↦{fullShare} w)

theorem whole_emb {s : Shape} (off : Fin s.rank → Nat) (h0 : ∀ a, off a = 0) (h : ∀ a, off a + s.size a ≤ s.size a) (j : s.Idx) :
    (Rect.unit (s := s) off s.size h).emb j = j :=
  funext fun a => Fin.ext (by show off a + 1 * (j a).val = (j a).val; rw [h0 a, Nat.zero_add, Nat.one_mul])
theorem zero2 : ∀ a : Fin 2, (![0, 0] : Fin 2 → Nat) a = 0 := by decide

theorem wp_ldX (c : Dev nD) (x : Vec F S1024x32 .bf16) (Q : Vec F S1024x32 .bf16 → sProp 𝕄) :
    iprop(inX c x ∗ (inX c x -∗ Q x)) ⊢ WP c (Prog.lift (.load mX (Rect.unit (s := S1024x32) ![0, 0] S1024x32.size inb_S1024x32_S1024x32_0_0).toLoadRect (View.loadsAt_vmem h_S1024x32))) Q := by
  unfold WP inX
  iintro ⟨H, HQ⟩
  iapply (wp_load_rect 𝒱₀ (c : Thread nD τ) none Set.univ (m := mX) (r := Rect.unit (s := S1024x32) ![0, 0] S1024x32.size inb_S1024x32_S1024x32_0_0) (f := x)
    (S := Finset.univ) (q := fullShare) (Finset.subset_univ _)) $$ [H]
  · iexact H
  iintro H
  rw [wp_ret]; imodintro
  rw [show (mX.access (Rect.unit (s := S1024x32) ![0, 0] S1024x32.size inb_S1024x32_S1024x32_0_0)).read (Elt F) x = x from funext fun j => congrArg x (whole_emb (s := S1024x32) ![0, 0] zero2 inb_S1024x32_S1024x32_0_0 j)]
  iapply HQ
  iexact H
theorem wp_ldW (c : Dev nD) (x : Vec F S32x1024 .bf16) (Q : Vec F S32x1024 .bf16 → sProp 𝕄) :
    iprop(inW c x ∗ (inW c x -∗ Q x)) ⊢ WP c (Prog.lift (.load mW (Rect.unit (s := S32x1024) ![0, 0] S32x1024.size inb_S32x1024_S32x1024_0_0).toLoadRect (View.loadsAt_vmem h_S32x1024))) Q := by
  unfold WP inW
  iintro ⟨H, HQ⟩
  iapply (wp_load_rect 𝒱₀ (c : Thread nD τ) none Set.univ (m := mW) (r := Rect.unit (s := S32x1024) ![0, 0] S32x1024.size inb_S32x1024_S32x1024_0_0) (f := x)
    (S := Finset.univ) (q := fullShare) (Finset.subset_univ _)) $$ [H]
  · iexact H
  iintro H
  rw [wp_ret]; imodintro
  rw [show (mW.access (Rect.unit (s := S32x1024) ![0, 0] S32x1024.size inb_S32x1024_S32x1024_0_0)).read (Elt F) x = x from funext fun j => congrArg x (whole_emb (s := S32x1024) ![0, 0] zero2 inb_S32x1024_S32x1024_0_0 j)]
  iapply HQ
  iexact H
theorem wp_ldP (c : Dev nD) (x : Vec F S1024x1024 .f32) (Q : Vec F S1024x1024 .f32 → sProp 𝕄) :
    iprop(partO c x ∗ (partO c x -∗ Q x)) ⊢ WP c (Prog.lift (.load mPart (Rect.unit (s := S1024x1024) ![0, 0] S1024x1024.size inb_S1024x1024_S1024x1024_0_0).toLoadRect (View.loadsAt_vmem h_S1024x1024))) Q := by
  unfold WP partO
  iintro ⟨H, HQ⟩
  iapply (wp_load_rect 𝒱₀ (c : Thread nD τ) none Set.univ (m := mPart) (r := Rect.unit (s := S1024x1024) ![0, 0] S1024x1024.size inb_S1024x1024_S1024x1024_0_0) (f := x)
    (S := Finset.univ) (q := fullShare) (Finset.subset_univ _)) $$ [H]
  · iexact H
  iintro H
  rw [wp_ret]; imodintro
  rw [show (mPart.access (Rect.unit (s := S1024x1024) ![0, 0] S1024x1024.size inb_S1024x1024_S1024x1024_0_0)).read (Elt F) x = x from funext fun j => congrArg x (whole_emb (s := S1024x1024) ![0, 0] zero2 inb_S1024x1024_S1024x1024_0_0 j)]
  iapply HQ
  iexact H
theorem write_whole (v x : Vec F S1024x1024 .f32) : (mPart.access (Rect.unit (s := S1024x1024) ![0, 0] S1024x1024.size inb_S1024x1024_S1024x1024_0_0)).write (Elt F) v x Finset.univ = x := funext fun j =>
  (congrArg ((mPart.access (Rect.unit (s := S1024x1024) ![0, 0] S1024x1024.size inb_S1024x1024_S1024x1024_0_0)).write (Elt F) v x Finset.univ) (whole_emb (s := S1024x1024) ![0, 0] zero2 inb_S1024x1024_S1024x1024_0_0 j).symm).trans
    (congrFun (View.read_write_univ (v := mPart.access (Rect.unit (s := S1024x1024) ![0, 0] S1024x1024.size inb_S1024x1024_S1024x1024_0_0)) v x) j)
theorem wp_stP (c : Dev nD) (v x : Vec F S1024x1024 .f32) (Q : PUnit → sProp 𝕄) :
    iprop(partO c v ∗ (partO c x -∗ Q ⟨⟩)) ⊢ WP c (Prog.lift (.store mPart (Rect.unit (s := S1024x1024) ![0, 0] S1024x1024.size inb_S1024x1024_S1024x1024_0_0) x Finset.univ (View.stores_vmem_bits_univ h_S1024x1024 rfl) (.inl rfl)) : P F PUnit) Q := by
  unfold WP partO
  iintro ⟨H, HQ⟩
  iapply (wp_store 𝒱₀ (c : Thread nD τ) none Set.univ (m := mPart) (r := Rect.unit (s := S1024x1024) ![0, 0] S1024x1024.size inb_S1024x1024_S1024x1024_0_0) (f := v) (S := Finset.univ) (Finset.subset_univ _)) $$ [H]
  · iexact H
  iintro H
  rw [wp_ret]; imodintro
  rw [write_whole v x]
  iapply HQ
  iexact H

theorem wp_mul (c : Dev nD) (Q : PUnit → sProp 𝕄) :
    iprop((inX c (X c) ∗ inW c (W c) ∗ (∃ v, partO c v)) ∗ ((inX c (X c) ∗ inW c (W c)) -∗ partO c (partV X W c) -∗ Q ⟨⟩)) ⊢ WP c mulPhase Q := by
  unfold mulPhase partV
  iintro ⟨⟨HX, HW, ⟨%v, HP⟩⟩, HQ⟩
  iapply (wp_seq c)
  iapply (wp_ldX c (X c) _)
  isplitl [HX]; · iexact HX
  iintro HX
  iapply (wp_seq c)
  iapply (wp_ldW c (W c) _)
  isplitl [HW]; · iexact HW
  iintro HW
  iapply (wp_seq c)
  iapply (wp_ldP c v _)
  isplitl [HP]; · iexact HP
  iintro HP
  iapply (wp_stP c v _ _)
  isplitl [HP]; · iexact HP
  iintro HP
  iapply HQ $$ [HX HW] HP
  isplitl [HX] <;> iassumption

theorem wp_dev (c : Dev nD) (k : Dev nD → P F PUnit) (Q : PUnit → sProp 𝕄) : WP c (k c) Q ⊢ WP c (Prog.lift .deviceId >>= k) Q := by
  iintro H
  iapply (wp_seq c)
  unfold WP Prog.lift
  rw [wp_deviceId, wp_ret]
  imodintro
  iexact H

/-! ## The signals -/

/-- What a device gives away to a member of its group: the slots that member sends into, with the right to signal. -/
def give (c : Dev nD) (d : Fin 16) : sProp 𝕄 :=
  iprop((sepL ws fun w => iprop(slotA (F := F) c mR1b w d ∗ slotA (F := F) c mFb w d)) ∗ tok (mineD c d) bar (opp d))
/-- What it gives its partner. -/
def giveP (c : Dev nD) : sProp 𝕄 :=
  iprop((sepL ws fun w => iprop(slabA (F := F) c mXr w ∗ slabA (F := F) c mPb w)) ∗ tok (partnerD c) bar 0)
/-- What it is given by a member, and by its partner. -/
def got (c : Dev nD) (d : Fin 16) : sProp 𝕄 :=
  sepL ws fun w => iprop(slotA (F := F) (mineD c d) mR1b w (opp d) ∗ slotA (F := F) (mineD c d) mFb w (opp d))
def gotP (c : Dev nD) : sProp 𝕄 :=
  sepL ws fun w => iprop(slabA (F := F) (partnerD c) mXr w ∗ slabA (F := F) (partnerD c) mPb w)

theorem barPay_mine (c : Dev nD) (d : Fin 16) (h : d ≠ 0) :
    barPay (F := F) (mineD c d) (opp d) = (sepL ws fun w => iprop(slotA (F := F) c mR1b w d ∗ slotA (F := F) c mFb w d) : sProp 𝕄) := by
  unfold barPay; rw [if_neg (opp_ne h), mine_opp, opp_opp, all2]
theorem barPay_partner (c : Dev nD) :
    barPay (F := F) (partnerD c) 0 = (sepL ws fun w => iprop(slabA (F := F) c mXr w ∗ slabA (F := F) c mPb w) : sProp 𝕄) := by
  unfold barPay; rw [if_pos rfl, partner_partner, all2]
theorem barPay_all (c : Dev nD) : (bigSep Finset.univ fun d => barPay (F := F) c d) = (iprop(gotP c ∗ sepL es15 (got c)) : sProp 𝕄) := by
  rw [all16]
  unfold gotP
  rw [sepL_congr (l := es15) (B := got (F := F) c) fun d hd => by unfold barPay got; rw [if_neg (es15_ne d hd), all2]]
  unfold barPay; rw [if_pos rfl, all2]

theorem sig_step (K : Dev nD × Cl → ℕ) (c : Dev nD) (r : List (Dev nD × Cl)) (d : Fin 16) (l : List (Fin 16)) (h : d ≠ 0) (Q : PUnit → sProp 𝕄) :
    iprop(known X W K ∗ ow c ((l.map fun d => (mineD c d, bar)) ++ r |>.cons (mineD c d, bar)) ∗ give (F := F) c d
        ∗ (ow c ((l.map fun d => (mineD c d, bar)) ++ r) -∗ emp -∗ Q ⟨⟩)) ⊢ WP c (sigStep (mineD c d)) Q := by
  unfold give
  rw [← barPay_mine c d h]
  iintro ⟨#HR, HO, ⟨Hp, Ht⟩, HQ⟩
  iapply (wp_sig X W K c (mineD c d) (opp d) ((l.map fun d => (mineD c d, bar)) ++ r) Q)
  isplitr; · iexact HR
  isplitl [HO]; · iexact HO
  isplitl [Ht]; · iexact Ht
  isplitl [Hp]; · iexact Hp
  iintro HO
  iapply HQ $$ HO
  iempintro

/-! ## The body -/

/-- What the body starts from, besides what it owes. -/
def start (c : Dev nD) : sProp 𝕄 :=
  iprop((inX c (X c) ∗ inW c (W c) ∗ (∃ v, partO c v)) ∗ (sepL ws fun w => slabA (F := F) c mXs w)
    ∗ giveP (F := F) c ∗ sepL es15 (give (F := F) c) ∗ armed c bar
    ∗ (sepL ws (xTok (F := F) c) ∗ sepL ws (use1 (F := F) c) ∗ sepL ws (use2 (F := F) c) ∗ sepL ws (use3 (F := F) c) ∗ sepL ws (use4 (F := F) c))
    ∗ (sepL ws fun w => pos c (sx w)) ∗ (sepL ws fun w => sepL es15 fun d => pos c (s1 w d)) ∗ (sepL ws fun w => sepL es15 fun d => pos c (s2 w d)) ∗ (sepL ws fun w => pos c (sf w)))
/-- What it ends with. -/
def finish (c : Dev nD) : sProp 𝕄 :=
  iprop((inX c (X c) ∗ inW c (W c)) ∗ partO c (partV X W c) ∗ zer c bar
    ∗ (sepL ws (left1 X W c) ∗ sepL ws (left2 X W c) ∗ sepL ws (left3 X W c) ∗ sepL ws (left4 X W c))
    ∗ (sepL ws fun w => spent X W c (sx w)) ∗ (sepL ws fun w => sepL es15 fun d => spent X W c (s1 w d))
    ∗ (sepL ws fun w => sepL es15 fun d => spent X W c (s2 w d)) ∗ sepL ws fun w => spent X W c (sf w))

theorem arm2 (c : Dev nD) (x : Fin 2 → Fin 16 → Cl) :
    iprop((sepL ws fun w => sepL es15 fun d => crd c (x w d)) ∗ sepL ws fun w => sepL es15 fun d => pos c (x w d))
      ⊢ (sepL ws fun w => sepL es15 fun d => armed c (x w d) : sProp 𝕄) :=
  BI.Entails.trans (sepL_zip ws) (sepL_mono fun w _ => sepL_zip es15)

theorem body_run (K : Dev nD × Cl → ℕ) (c : Dev nD) (Q : PUnit → sProp 𝕄) :
    iprop(known X W K ∗ ow c (debts0 c) ∗ start X W c ∗ (ow c [] -∗ finish X W c -∗ Q ⟨⟩)) ⊢ WP c prog Q := by
  unfold prog
  unfold start giveP armed
  iintro ⟨#HR, HO, ⟨HI, Hxs, ⟨HgP, HtP⟩, Hg, ⟨Hcb, Hpb⟩, ⟨HxT, HU1, HU2, HU3, HU4⟩, Hp1, Hp2, Hp3, Hp4⟩, HQ⟩
  iapply (wp_dev c)
  iapply (wp_seq c)
  iapply (wp_mul X W c _)
  isplitl [HI]; · iexact HI
  iintro HI HP
  iapply (wp_seq c)
  iapply (wp_forL c (R := iprop(emp)) (fun _ => True) (fun _ => partO c (partV X W c)) (fun w => slabA (F := F) c mXs w) (fun w => slabO c mXs w (xsV X W c w))
    (fun w => forL es16 (xsStep c w)) (fun w _ _ Q => xs_loop X W c w Q) ws (fun _ _ => trivial) _)
  isplitr; · iempintro
  isplitl [HP]; · iexact HP
  isplitl [Hxs]; · iexact Hxs
  iintro HP Hxs
  iapply (wp_seq c)
  iapply (wp_sig X W K c (partnerD c) 0 (sigDebts c ++ debts1 c ws) _)
  isplitr; · iexact HR
  isplitl [HO]; · iexact HO
  isplitl [HtP]; · iexact HtP
  isplitl [HgP]; · rw [barPay_partner]; iexact HgP
  iintro HO
  iapply (wp_seq c)
  iapply (wp_forL c (R := known X W K) (fun d => d ≠ 0) (fun l => ow c ((l.map fun d => (mineD c d, bar)) ++ debts1 c ws)) (give (F := F) c) (fun _ => iprop(emp))
    (fun d => sigStep (mineD c d)) (fun d l h Q => sig_step X W K c (debts1 c ws) d l h Q) es15 es15_ne _)
  isplitr; · iexact HR
  isplitl [HO]; · iexact HO
  isplitl [Hg]; · iexact Hg
  iintro HO -
  iapply (wp_seq c)
  iapply (wp_barrier X W K c (debts1 c ws) (above_1 c ws (Nat.lt_succ_self 1)) _)
  isplitr; · iexact HR
  isplitl [HO]; · iexact HO
  isplitl [Hcb]; · iexact Hcb
  isplitl [Hpb]; · iexact Hpb
  iintro HO Hgot Hzb
  ihave Hgot := (Entails.of_eq (barPay_all c)) $$ Hgot
  icases Hgot with ⟨HgP, Hg⟩
  unfold gotP got
  ihave HgP := (sepL_sep ws) $$ HgP
  icases HgP with ⟨HgX, HgB⟩
  ihave Hg := (sepL_comm es15 ws) $$ Hg
  ihave Hg := (sepL_mono (l := ws) fun w _ => sepL_sep es15) $$ Hg
  ihave Hg := (sepL_sep ws) $$ Hg
  icases Hg with ⟨HgR, HgF⟩
  iapply (wp_seq c)
  iapply (wp_forL c (R := known X W K) (fun _ => True) (fun l => ow c (debts1 c l))
    (fun w => iprop((slabO c mXs w (xsV X W c w) ∗ slabA (F := F) (partnerD c) mXr w) ∗ xTok c w)) (fun w => crd c (sx w))
    (xSend c) (fun w l _ Q => x_send X W K c w l Q) ws (fun _ _ => trivial) _)
  isplitr; · iexact HR
  isplitl [HO]; · iexact HO
  isplitl [Hxs HgX HxT]
  · iapply (sepL_zip ws)
    isplitr [HxT]; swap; · iexact HxT
    iapply (sepL_zip ws)
    isplitl [Hxs]; · iexact Hxs
    iexact HgX
  iintro HO Hc1
  iapply (wp_seq c)
  iapply (wp_forL c (R := known X W K) (fun _ => True) (fun l => iprop(ow c (debts2 c l) ∗ partO c (partV X W c)))
    (fun w => iprop(use1 c w ∗ sepL es15 fun d => slotA (F := F) (mineD c d) mR1b w (opp d)))
    (fun w => iprop((left1 X W c w ∗ slotO c mCmb w 0 (cmbV X W c w 0)) ∗ sepL es15 fun d => crd c (s1 w d)))
    (phase1 c) (fun w l _ Q => phase1_at X W K c w l Q) ws (fun _ _ => trivial) _)
  isplitr; · iexact HR
  isplitl [HO HP]
  · isplitl [HO]; · iexact HO
    iexact HP
  isplitl [HU1 HgR]
  · iapply (sepL_zip ws)
    isplitl [HU1]; · iexact HU1
    iexact HgR
  iintro ⟨HO, HP⟩ HB
  ihave HB := (sepL_sep ws) $$ HB
  icases HB with ⟨HB, Hc2⟩
  ihave HB := (sepL_sep ws) $$ HB
  icases HB with ⟨HL1, HC0⟩
  iapply (wp_seq c)
  iapply (wp_forL c (R := known X W K) (fun _ => True) (fun l => ow c (debts3 c l))
    (fun w => iprop(slotO c mCmb w 0 (cmbV X W c w 0) ∗ use2 c w ∗ sepL es15 fun d => slotA (F := F) (mineD c d) mFb w (opp d)))
    (fun w => iprop(left2 X W c w ∗ slotO c mFb w 0 (fbV X W c w 0) ∗ sepL es15 fun d => crd c (s2 w d)))
    (phase2 c) (fun w l _ Q => phase2_at X W K c w l Q) ws (fun _ _ => trivial) _)
  isplitr; · iexact HR
  isplitl [HO]; · iexact HO
  isplitl [HC0 HU2 HgF]
  · iapply (sepL_zip ws)
    isplitl [HC0]; · iexact HC0
    iapply (sepL_zip ws)
    isplitl [HU2]; · iexact HU2
    iexact HgF
  iintro HO HB
  ihave HB := (sepL_sep ws) $$ HB
  icases HB with ⟨HL2, HB⟩
  ihave HB := (sepL_sep ws) $$ HB
  icases HB with ⟨HF0, Hc3⟩
  iapply (wp_seq c)
  iapply (wp_forL c (R := known X W K) (fun _ => True) (fun l => ow c (debts4 c l))
    (fun w => iprop(slotO c mFb w 0 (fbV X W c w 0) ∗ use3 c w ∗ slabA (F := F) (partnerD c) mPb w))
    (fun w => iprop(left3 X W c w ∗ crd c (sf w)))
    (phase3 c) (fun w l _ Q => phase3_at X W K c w l Q) ws (fun _ _ => trivial) _)
  isplitr; · iexact HR
  isplitl [HO]; · iexact HO
  isplitl [HF0 HU3 HgB]
  · iapply (sepL_zip ws)
    isplitl [HF0]; · iexact HF0
    iapply (sepL_zip ws)
    isplitl [HU3]; · iexact HU3
    iexact HgB
  iintro HO HB
  ihave HB := (sepL_sep ws) $$ HB
  icases HB with ⟨HL3, Hc4⟩
  iapply (wp_seq c)
  iapply (wp_forL c (R := known X W K) (fun _ => True) (fun _ => ow c []) (use4 c) (left4 X W c) (phase4 c) (fun w _ _ Q => phase4_at X W K c w Q) ws (fun _ _ => trivial) _)
  isplitr; · iexact HR
  isplitl [HO]; · iexact HO
  isplitl [HU4]; · iexact HU4
  iintro HO HL4
  iapply (done_at X W K c _)
  isplitr; · iexact HR
  isplitl [HO]; · iexact HO
  isplitl [Hc1 Hc2 Hc3 Hc4 Hp1 Hp2 Hp3 Hp4]
  · isplitl [Hc1 Hp1]
    · unfold armed
      iapply (sepL_zip ws); isplitl [Hc1]; · iexact Hc1
      iexact Hp1
    isplitl [Hc2 Hp2]
    · iapply (arm2 c s1); isplitl [Hc2]; · iexact Hc2
      iexact Hp2
    isplitl [Hc3 Hp3]
    · iapply (arm2 c s2); isplitl [Hc3]; · iexact Hc3
      iexact Hp3
    unfold armed
    iapply (sepL_zip ws); isplitl [Hc4]; · iexact Hc4
    iexact Hp4
  iintro HO ⟨H1, H2, H3, H4⟩
  iapply HQ $$ HO
  unfold finish
  isplitl [HI]; · iexact HI
  isplitl [HP]; · iexact HP
  isplitl [Hzb]; · iexact Hzb
  isplitl [HL1 HL2 HL3 HL4]
  · isplitl [HL1]; · iexact HL1
    isplitl [HL2]; · iexact HL2
    isplitl [HL3]; · iexact HL3
    iexact HL4
  isplitl [H1]; · iexact H1
  isplitl [H2]; · iexact H2
  isplitl [H3]; · iexact H3
  iexact H4

end Cert.KernelIdeal.Gelu

end
-- ==== Proof.Ends.lean ====
/- The two ends of the body: a device's whole buffers and all its rights cut up into what the phases use, and what the
   phases leave put together again. -/
module

public import proofs.«01_k».proof.Proof.Body

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .bf16) (W : Dev nD → Vec F S32x1024 .bf16)

/-! ## Whole buffers and their parts -/

/-- A buffer of thirty-two blocks, owned whole at some contents. -/
def wholeA {s : Shape} {e' : EltTy} (c : Dev nD) (m : Memref sig .tc .vmem s e') : sProp 𝕄 :=
  iprop(∃ f : m.view.ty.Contents (Elt F), m.view.loc (c : Thread nD τ) ↦[m.view.set]{fullShare} f)

theorem owns_wholeA {s : Shape} {e' : EltTy} (c : Dev nD) (m : Memref sig .tc .vmem s e') (v : Vec F s e') :
    ownsTc c m fullShare v ⊢ (wholeA (F := F) c m : sProp 𝕄) := by
  unfold wholeA ownsTc owns
  iintro ⟨%f, -, H⟩
  iexists f; iexact H

theorem slots_split {e' : EltTy} (c : Dev nD) (m : Memref sig .tc .vmem S2x16x32x512 e') :
    wholeA (F := F) c m ⊢ (sepL ws fun w => slabA (F := F) c m w : sProp 𝕄) := by
  unfold wholeA
  iintro ⟨%f, H⟩
  ihave H := (Entails.of_eq (pointsTo_rects (c : Thread nD τ) m fullShare (fun t : Fin 2 × Fin 16 => rSlot t.1 t.2) (fun _ _ => rfl) slot_disj slot_cov f)) $$ H
  rw [← all2]
  unfold slabA
  rw [← bigSep_univ_prod (fun t : Fin 2 × Fin 16 => slotA (F := F) c m t.1 t.2)]
  iapply (show bigSep Finset.univ (fun t : Fin 2 × Fin 16 => (owns (c : Thread nD τ) (m.slice (rSlot t.1 t.2) (fun _ => rfl)) fullShare (fun j => m.view.read (Elt F) f ((rSlot t.1 t.2).emb j)) : sProp 𝕄))
    ⊢ bigSep Finset.univ (fun t : Fin 2 × Fin 16 => slotA (F := F) c m t.1 t.2) from bigSep_mono fun t _ => slotO_A c m t.1 t.2 _)
  iexact H

theorem slots_join {e' : EltTy} (c : Dev nD) (m : Memref sig .tc .vmem S2x16x32x512 e') :
    (sepL ws fun w => slabA (F := F) c m w) ⊢ (wholeA (F := F) c m : sProp 𝕄) := by
  rw [← all2]
  unfold slabA
  rw [← bigSep_univ_prod (fun t : Fin 2 × Fin 16 => slotA (F := F) c m t.1 t.2)]
  unfold slotA
  iintro H
  ihave H := (bigSep_exists_pi Finset.univ fun (t : Fin 2 × Fin 16) v => slotO (F := F) c m t.1 t.2 v) $$ H
  icases H with ⟨%V, H⟩
  iapply (owns_wholeA c m fun i => V (i 0, i 1) (inSlot i))
  iapply (owns_of_rects (c : Thread nD τ) m fullShare (fun t : Fin 2 × Fin 16 => rSlot t.1 t.2) (fun _ _ => rfl) slot_disj slot_cov (fun i => V (i 0, i 1) (inSlot i)))
  iapply (Entails.of_eq (bigSep_congr (s := Finset.univ) fun (t : Fin 2 × Fin 16) _ => show slotO (F := F) c m t.1 t.2 (V t) = (owns (c : Thread nD τ) (m.slice (rSlot t.1 t.2) (fun _ => rfl)) fullShare
      (fun j => V ((rSlot t.1 t.2).emb j 0, (rSlot t.1 t.2).emb j 1) (inSlot ((rSlot t.1 t.2).emb j))) : sProp 𝕄) from by
    have h : (fun j => V ((rSlot t.1 t.2).emb j 0, (rSlot t.1 t.2).emb j 1) (inSlot ((rSlot t.1 t.2).emb j))) = V t := funext fun j => by
      have h0 : (rSlot t.1 t.2).emb j 0 = t.1 := by
        have hj := (j 0).isLt
        change (j 0).val < 1 at hj
        exact Fin.ext (show t.1.val + 1 * (j 0).val = t.1.val by omega)
      rw [h0, (slot_emb t.1 t.2 j).1, (slot_emb t.1 t.2 j).2]
    rw [h]; rfl))
  iexact H

theorem halfO_A (c : Dev nD) (w : Fin 2) (v : Vec F S1x32x512 .bf16) : halfO c w fullShare v ⊢ (halfA (F := F) c w : sProp 𝕄) := by
  unfold halfA
  iintro H
  iexists v; iexact H
theorem tileO_A (c r : Dev nD) (w : Fin 2) (v : Vec F S32x512 .f32) : tileO c r w v ⊢ (tileA (F := F) c r w : sProp 𝕄) := by
  unfold tileA
  iintro H
  iexists v; iexact H

theorem halves_split (c : Dev nD) : wholeA (F := F) c mGs ⊢ (sepL ws fun w => halfA (F := F) c w : sProp 𝕄) := by
  unfold wholeA
  iintro ⟨%f, H⟩
  ihave H := (Entails.of_eq (pointsTo_rects (c : Thread nD τ) mGs fullShare (fun t : Fin 2 => rHalf t) (fun _ _ => rfl) half_disj half_cov f)) $$ H
  rw [← all2]
  iapply (show bigSep Finset.univ (fun t : Fin 2 => (owns (c : Thread nD τ) (mGs.slice (rHalf t) (fun _ => rfl)) fullShare (fun j => mGs.view.read (Elt F) f ((rHalf t).emb j)) : sProp 𝕄))
    ⊢ bigSep Finset.univ (fun t : Fin 2 => halfA (F := F) c t) from bigSep_mono fun t _ => halfO_A c t _)
  iexact H

theorem halves_join (c : Dev nD) : (sepL ws fun w => halfA (F := F) c w) ⊢ (wholeA (F := F) c mGs : sProp 𝕄) := by
  rw [← all2]
  unfold halfA
  haveI : Nonempty (Vec F S1x32x512 .bf16) := ⟨fun _ => @Classical.arbitrary _ ((inferInstance : ∀ e, Nonempty (Elt F e)) .bf16)⟩
  iintro H
  ihave H := (bigSep_exists_pi Finset.univ fun (t : Fin 2) v => halfO (F := F) c t fullShare v) $$ H
  icases H with ⟨%V, H⟩
  iapply (owns_wholeA c mGs fun i => V (i 0) (inHalf i))
  iapply (owns_of_rects (c : Thread nD τ) mGs fullShare (fun t : Fin 2 => rHalf t) (fun _ _ => rfl) half_disj half_cov (fun i => V (i 0) (inHalf i)))
  iapply (Entails.of_eq (bigSep_congr (s := Finset.univ) fun (t : Fin 2) _ => show halfO (F := F) c t fullShare (V t) = (owns (c : Thread nD τ) (mGs.slice (rHalf t) (fun _ => rfl)) fullShare
      (fun j => V ((rHalf t).emb j 0) (inHalf ((rHalf t).emb j))) : sProp 𝕄) from by
    have h : (fun j => V ((rHalf t).emb j 0) (inHalf ((rHalf t).emb j))) = V t := funext fun j => by
      have h0 : (rHalf t).emb j 0 = t := by
        have hj := (j 0).isLt
        change (j 0).val < 1 at hj
        exact Fin.ext (show t.val + 1 * (j 0).val = t.val by omega)
      rw [h0, half_emb t j]
    rw [h]; rfl))
  iexact H

/-- The blocks of rows of the result, the own one, the group's and the partners'. -/
theorem groups_eq (c : Dev nD) (A : Dev nD → sProp 𝕄) :
    bigSep Finset.univ A = iprop((A c ∗ sepL es15 fun j => A (mineD c j)) ∗ sepL es16 fun e => A (partnerD (mineD c e))) := by
  rw [bigSep_univ_equiv (groupsE c), bigSep_univ_sum, all16, all16']
  show iprop((A (mineD c 0) ∗ sepL es15 fun j => A (mineD c j)) ∗ sepL es16 fun e => A (partnerD (mineD c e))) = _
  rw [mine_zero]

/-- The parts of the result of one half. -/
def tilesA (c : Dev nD) (w : Fin 2) : sProp 𝕄 :=
  iprop((tileA (F := F) c c w ∗ sepL es15 fun j => tileA (F := F) c (mineD c j) w) ∗ sepL es16 fun e => tileA (F := F) c (partnerD (mineD c e)) w)
def tilesO (c : Dev nD) (w : Fin 2) : sProp 𝕄 :=
  iprop((tileO c c w (gV X W c w) ∗ sepL es15 fun j => tileO c (mineD c j) w (outV X W c (mineD c j) w))
    ∗ sepL es16 fun e => tileO c (partnerD (mineD c e)) w (outV X W c (partnerD (mineD c e)) w))

theorem tiles_split (c : Dev nD) : wholeA (F := F) c mOut ⊢ (sepL ws fun w => tilesA (F := F) c w : sProp 𝕄) := by
  unfold wholeA
  iintro ⟨%f, H⟩
  ihave H := (Entails.of_eq (pointsTo_rects (c : Thread nD τ) mOut fullShare (fun t : Dev nD × Fin 2 => rTile t.1 t.2) (fun _ _ => rfl) tile_disj tile_cov f)) $$ H
  rw [← all2]
  unfold tilesA
  rw [← bigSep_congr (s := Finset.univ) fun (w : Fin 2) _ => groups_eq c fun r => tileA (F := F) c r w, bigSep_univ_comm,
    ← bigSep_univ_prod (fun t : Dev nD × Fin 2 => tileA (F := F) c t.1 t.2)]
  iapply (show bigSep Finset.univ (fun t : Dev nD × Fin 2 => (owns (c : Thread nD τ) (mOut.slice (rTile t.1 t.2) (fun _ => rfl)) fullShare (fun j => mOut.view.read (Elt F) f ((rTile t.1 t.2).emb j)) : sProp 𝕄))
    ⊢ bigSep Finset.univ (fun t : Dev nD × Fin 2 => tileA (F := F) c t.1 t.2) from bigSep_mono fun t _ => tileO_A c t.1 t.2 _)
  iexact H

theorem tiles_join (c : Dev nD) : (sepL ws fun w => tilesO X W c w) ⊢ (ownsTc c mOut fullShare (outF X W c) : sProp 𝕄) := by
  rw [← all2]
  unfold tilesO
  iintro H
  iapply (owns_of_rects (c : Thread nD τ) mOut fullShare (fun t : Dev nD × Fin 2 => rTile t.1 t.2) (fun _ _ => rfl) tile_disj tile_cov (outF X W c))
  iapply (Entails.of_eq (bigSep_congr (s := Finset.univ) fun (t : Dev nD × Fin 2) _ => show tileO c t.1 t.2 (outV X W c t.1 t.2) = (owns (c : Thread nD τ) (mOut.slice (rTile t.1 t.2) (fun _ => rfl)) fullShare
      (fun j => outF X W c ((rTile t.1 t.2).emb j)) : sProp 𝕄) from by
    have h : (fun j => outF X W c ((rTile t.1 t.2).emb j)) = outV X W c t.1 t.2 := funext fun j => by
      unfold outF
      rw [(tile_emb t.1 t.2 j).1, (tile_emb t.1 t.2 j).2.1, (tile_emb t.1 t.2 j).2.2]
    rw [h]; rfl))
  rw [bigSep_univ_prod (fun t : Dev nD × Fin 2 => tileO c t.1 t.2 (outV X W c t.1 t.2)), bigSep_univ_comm]
  iapply (Entails.of_eq (bigSep_congr (s := Finset.univ) fun (w : Fin 2) _ =>
    ((groups_eq c fun r => tileO c r w (outV X W c r w)).trans (by rw [outV_self])).symm))
  iexact H

/-! ## All the semaphores, one by one -/

/-- The DMA semaphores, half by half. -/
def dcE : Fin 2 × (Fin 4 ⊕ (Fin 4 × Fin 16)) ≃ DC where
  toFun
    | (w, .inl i) => .inl (i, w)
    | (w, .inr (i, e)) => .inr (i, w, e)
  invFun
    | .inl (i, w) => (w, .inl i)
    | .inr (i, w, e) => (w, .inr (i, e))
  left_inv := by rintro ⟨w, i | ⟨i, e⟩⟩ <;> rfl
  right_inv := by rintro (⟨i, w⟩ | ⟨i, w, e⟩) <;> rfl
def clE : Unit ⊕ DC ≃ Cl where
  toFun
    | .inl _ => none
    | .inr x => some x
  invFun
    | none => .inl ()
    | some x => .inr x
  left_inv := by rintro (_ | x) <;> rfl
  right_inv := by rintro (_ | x) <;> rfl

theorem cl_eq (A : Cl → sProp 𝕄) : bigSep Finset.univ A = iprop(A bar ∗ bigSep Finset.univ fun x : DC => A (some x)) := by
  rw [bigSep_univ_equiv clE, bigSep_univ_sum, show (Finset.univ : Finset Unit) = {()} from rfl, bigSep_singleton]
  rfl
theorem all4 (A : Fin 4 → sProp 𝕄) : bigSep Finset.univ A = iprop(A 0 ∗ A 1 ∗ A 2 ∗ A 3) :=
  bigSep_univ_eq_bigSepL [0, 1, 2, 3] (by decide) (by decide) A
theorem dc_eq (A : Cl → sProp 𝕄) : (bigSep Finset.univ fun x : DC => A (some x)) = sepL ws fun w =>
    iprop((A (sx w) ∗ A (rx w) ∗ A (sf w) ∗ A (rf w))
      ∗ (A (s1 w 0) ∗ sepL es15 fun e => A (s1 w e)) ∗ (A (r1 w 0) ∗ sepL es15 fun e => A (r1 w e))
      ∗ (A (s2 w 0) ∗ sepL es15 fun e => A (s2 w e)) ∗ (A (r2 w 0) ∗ sepL es15 fun e => A (r2 w e))) := by
  rw [bigSep_univ_equiv dcE, bigSep_univ_prod, ← all2]
  refine bigSep_congr fun w _ => ?_
  rw [bigSep_univ_sum, all4, bigSep_univ_prod, all4]
  simp only [all16]
  rfl

/-! ## The start -/

/-- A device's tokens for the signals and transfers it makes, half by half. -/
def tokW (c : Dev nD) (w : Fin 2) : sProp 𝕄 :=
  iprop((tok c (sx w) 0 ∗ tok (partnerD c) (rx w) 0 ∗ tok c (sf w) 0 ∗ tok (partnerD c) (rf w) 0)
    ∗ (sepL es15 fun e => tok c (s1 w e) 0) ∗ (sepL es15 fun e => tok (mineD c e) (r1 w (opp e)) 0)
    ∗ (sepL es15 fun e => tok c (s2 w e) 0) ∗ sepL es15 fun e => tok (mineD c e) (r2 w (opp e)) 0)
/-- Its credits. -/
def crdW (c : Dev nD) (w : Fin 2) : sProp 𝕄 :=
  iprop(crd c (rx w) ∗ crd c (rf w) ∗ (sepL es15 fun e => crd c (r1 w e)) ∗ sepL es15 fun e => crd c (r2 w e))
/-- Its rights to wait. -/
def posW (c : Dev nD) (w : Fin 2) : sProp 𝕄 :=
  iprop((pos c (sx w) ∗ pos c (rx w) ∗ pos c (sf w) ∗ pos c (rf w))
      ∗ (pos c (s1 w 0) ∗ sepL es15 fun e => pos c (s1 w e)) ∗ (pos c (r1 w 0) ∗ sepL es15 fun e => pos c (r1 w e))
      ∗ (pos c (s2 w 0) ∗ sepL es15 fun e => pos c (s2 w e)) ∗ (pos c (r2 w 0) ∗ sepL es15 fun e => pos c (r2 w e)))
def zerW (c : Dev nD) (w : Fin 2) : sProp 𝕄 :=
  iprop((zer c (sx w) ∗ zer c (rx w) ∗ zer c (sf w) ∗ zer c (rf w))
      ∗ (zer c (s1 w 0) ∗ sepL es15 fun e => zer c (s1 w e)) ∗ (zer c (r1 w 0) ∗ sepL es15 fun e => zer c (r1 w e))
      ∗ (zer c (s2 w 0) ∗ sepL es15 fun e => zer c (s2 w e)) ∗ (zer c (r2 w 0) ∗ sepL es15 fun e => zer c (r2 w e)))
/-- Its buffers. -/
def bufW (c : Dev nD) (w : Fin 2) : sProp 𝕄 :=
  iprop(slabA (F := F) c mXs w ∗ slabA (F := F) c mXr w ∗ slabA (F := F) c mCmb w ∗ slabA (F := F) c mS1b w
    ∗ slabA (F := F) c mR1b w ∗ halfA (F := F) c w ∗ slabA (F := F) c mFb w ∗ slabA (F := F) c mPb w)
/-- The slots and semaphores at distance zero, which no transfer uses. -/
def spareW (c : Dev nD) (w : Fin 2) : sProp 𝕄 :=
  iprop(slotA (F := F) c mS1b w 0 ∗ slotA (F := F) c mR1b w 0 ∗ pos c (s1 w 0) ∗ pos c (r1 w 0) ∗ pos c (s2 w 0) ∗ pos c (r2 w 0))

/-- What the phases use, half by half. -/
def useW (c : Dev nD) (w : Fin 2) : sProp 𝕄 :=
  iprop(slabA (F := F) c mXs w ∗ (slabA (F := F) c mXr w ∗ slabA (F := F) c mPb w)
    ∗ (sepL es15 fun d => iprop(slotA (F := F) c mR1b w d ∗ slotA (F := F) c mFb w d))
    ∗ (xTok (F := F) c w ∗ use1 (F := F) c w ∗ use2 (F := F) c w ∗ use3 (F := F) c w ∗ use4 (F := F) c w)
    ∗ pos c (sx w) ∗ (sepL es15 fun d => pos c (s1 w d)) ∗ (sepL es15 fun d => pos c (s2 w d)) ∗ pos c (sf w))

theorem slabA_zero {e' : EltTy} (c : Dev nD) (m : Memref sig .tc .vmem S2x16x32x512 e') (w : Fin 2) :
    slabA (F := F) c m w = (iprop(slotA (F := F) c m w 0 ∗ sepL es15 fun e => slotA (F := F) c m w e) : sProp 𝕄) := by
  unfold slabA; exact all16 _

theorem start_half (c : Dev nD) (w : Fin 2) :
    iprop(bufW (F := F) c w ∗ tilesA (F := F) c w ∗ tokW (F := F) c w ∗ crdW (F := F) c w ∗ posW (F := F) c w)
      ⊢ (iprop(useW (F := F) c w ∗ spareW (F := F) c w) : sProp 𝕄) := by
  unfold bufW tilesA tokW crdW posW useW spareW
  rw [slabA_zero c mS1b, slabA_zero c mR1b, slabA_zero c mFb]
  unfold xTok use1 sTok use2 gTok use3 use4 armed
  iintro ⟨⟨B1, B2, B3, ⟨B40, B4⟩, ⟨B50, B5⟩, B6, ⟨B70, B7⟩, B8⟩, ⟨⟨T0, T1⟩, T2⟩, ⟨⟨K1, K2, K3, K4⟩, K5, K6, K7, K8⟩, ⟨C1, C2, C3, C4⟩,
    ⟨P1, P2, P3, P4⟩, ⟨P50, P5⟩, ⟨P60, P6⟩, ⟨P70, P7⟩, P80, P8⟩
  isplitr [B40 B50 P50 P60 P70 P80]; swap
  · isplitl [B40]; · iexact B40
    isplitl [B50]; · iexact B50
    isplitl [P50]; · iexact P50
    isplitl [P60]; · iexact P60
    isplitl [P70]; · iexact P70
    iexact P80
  isplitl [B1]; · iexact B1
  isplitl [B2 B8]
  · isplitl [B2]; · iexact B2
    iexact B8
  isplitl [B5 B7]
  · iapply (sepL_zip es15)
    isplitl [B5]; · iexact B5
    iexact B7
  isplitr [P1 P5 P7 P3]; swap
  · isplitl [P1]; · iexact P1
    isplitl [P5]; · iexact P5
    isplitl [P7]; · iexact P7
    iexact P3
  isplitl [K1 K2]
  · isplitl [K1]; · iexact K1
    iexact K2
  isplitl [C1 P2 B3 B4 K5 K6]
  · isplitl [C1 P2]
    · isplitl [C1]; · iexact C1
      iexact P2
    isplitl [B3]; · iexact B3
    iapply (sepL_zip es15)
    isplitl [B4]; · iexact B4
    iapply (sepL_zip es15)
    isplitl [K5]; · iexact K5
    iexact K6
  isplitl [C3 P6 T0 B6 B70 K7 K8]
  · isplitl [C3 P6]
    · iapply (sepL_zip es15)
      isplitl [C3]; · iexact C3
      iexact P6
    isplitl [T0 B6 B70]
    · isplitl [T0]; · iexact T0
      isplitl [B6]; · iexact B6
      iexact B70
    iapply (sepL_zip es15)
    isplitl [K7]; · iexact K7
    iexact K8
  isplitl [C4 P8 T1 K3 K4]
  · isplitl [C4 P8 T1]
    · iapply (sepL_zip es15)
      isplitl [C4 P8]
      · iapply (sepL_zip es15)
        isplitl [C4]; · iexact C4
        iexact P8
      iexact T1
    isplitl [K3]; · iexact K3
    iexact K4
  isplitl [C2 P4]
  · isplitl [C2]; · iexact C2
    iexact P4
  iexact T2

/-- A device's tokens for its handshake signals. -/
def tokB (c : Dev nD) : sProp 𝕄 := iprop(tok (partnerD c) bar 0 ∗ sepL es15 fun d => tok (mineD c d) bar (opp d))

theorem start_of (c : Dev nD) :
    iprop((inX c (X c) ∗ inW c (W c) ∗ (∃ v, partO c v)) ∗ armed c bar ∗ tokB (F := F) c ∗ sepL ws fun w => useW (F := F) c w) ⊢ start X W c := by
  unfold tokB useW start giveP give
  iintro ⟨HI, Hb, ⟨Kp, Km⟩, H⟩
  ihave H := (sepL_sep ws) $$ H
  icases H with ⟨H1, H⟩
  ihave H := (sepL_sep ws) $$ H
  icases H with ⟨H2, H⟩
  ihave H := (sepL_sep ws) $$ H
  icases H with ⟨H3, H⟩
  ihave H := (sepL_sep ws) $$ H
  icases H with ⟨H4, H⟩
  ihave H := (sepL_sep ws) $$ H
  icases H with ⟨H5, H⟩
  ihave H := (sepL_sep ws) $$ H
  icases H with ⟨H6, H⟩
  ihave H := (sepL_sep ws) $$ H
  icases H with ⟨H7, H8⟩
  ihave H4 := (sepL_sep ws) $$ H4
  icases H4 with ⟨U0, H4⟩
  ihave H4 := (sepL_sep ws) $$ H4
  icases H4 with ⟨U1, H4⟩
  ihave H4 := (sepL_sep ws) $$ H4
  icases H4 with ⟨U2, H4⟩
  ihave H4 := (sepL_sep ws) $$ H4
  icases H4 with ⟨U3, U4⟩
  isplitl [HI]; · iexact HI
  isplitl [H1]; · iexact H1
  isplitl [H2 Kp]
  · isplitl [H2]; · iexact H2
    iexact Kp
  isplitl [H3 Km]
  · iapply (sepL_zip es15)
    isplitl [H3]
    · iapply (sepL_comm ws es15); iexact H3
    iexact Km
  isplitl [Hb]; · iexact Hb
  isplitl [U0 U1 U2 U3 U4]
  · isplitl [U0]; · iexact U0
    isplitl [U1]; · iexact U1
    isplitl [U2]; · iexact U2
    isplitl [U3]; · iexact U3
    iexact U4
  isplitl [H5]; · iexact H5
  isplitl [H6]; · iexact H6
  isplitl [H7]; · iexact H7
  iexact H8

/-! ## The finish -/

theorem close_zero (K : Dev nD × Cl → ℕ) (c : Dev nD) (i : Fin 4) (w : Fin 2) :
    iprop(known X W K ∗ pos c (some (.inr (i, w, 0)))) ⊢ (iprop(|={Set.univ}=> zer c (some (.inr (i, w, 0)))) : sProp 𝕄) :=
  close_unused X W K c _ (show (if (0 : Fin 16) = 0 then ∅ else {0}) = ∅ from if_pos rfl)

/-- What the phases leave, half by half. -/
def leftW (c : Dev nD) (w : Fin 2) : sProp 𝕄 :=
  iprop((left1 X W c w ∗ left2 X W c w ∗ left3 X W c w ∗ left4 X W c w)
    ∗ spent X W c (sx w) ∗ (sepL es15 fun d => spent X W c (s1 w d)) ∗ (sepL es15 fun d => spent X W c (s2 w d)) ∗ spent X W c (sf w))

theorem slabO_A {e' : EltTy} (c : Dev nD) (m : Memref sig .tc .vmem S2x16x32x512 e') (w : Fin 2) (v : Fin 16 → Vec F S1x1x32x512 e') :
    slabO c m w v ⊢ (slabA (F := F) c m w : sProp 𝕄) := by
  unfold slabO slabA; exact bigSep_mono fun e _ => slotO_A c m w e (v e)
theorem slotsO_A {e' : EltTy} (c : Dev nD) (m : Memref sig .tc .vmem S2x16x32x512 e') (w : Fin 2) (v : Fin 16 → Vec F S1x1x32x512 e') :
    (sepL es15 fun e => slotO c m w e (v e)) ⊢ (sepL es15 fun e => slotA (F := F) c m w e : sProp 𝕄) :=
  sepL_mono fun e _ => slotO_A c m w e (v e)

theorem leaves_join (c : Dev nD) (w : Fin 2) (v : Vec F S1x32x512 .bf16) :
    iprop(halfO c w (ShareLeaves.leaf 4 fullShare 0) v ∗ sepL es15 fun d => halfO c w (ShareLeaves.leaf 4 fullShare d) v) ⊢ (halfA (F := F) c w : sProp 𝕄) := by
  have h : halfO c w fullShare v = (iprop(halfO c w (ShareLeaves.leaf 4 fullShare 0) v ∗ sepL es15 fun d => halfO c w (ShareLeaves.leaf 4 fullShare d) v) : sProp 𝕄) :=
    (half_leaves c w v).trans (all16 _)
  rw [← h]
  unfold halfA
  iintro H
  iexists v; iexact H

theorem left_half (K : Dev nD × Cl → ℕ) (c : Dev nD) (w : Fin 2) :
    iprop(known X W K ∗ leftW X W c w ∗ spareW (F := F) c w) ⊢ (|={Set.univ}=> iprop(bufW (F := F) c w ∗ tilesO X W c w ∗ zerW (F := F) c w) : sProp 𝕄) := by
  unfold leftW spareW left1 left2 left3 left4 spent
  iintro ⟨#HR, ⟨⟨⟨Z1, B2, B3⟩, ⟨B30, H1, T0, B60⟩, H3, ⟨Z4, B8, T2⟩⟩, ⟨Zx, B1⟩, Hs1, Hs2, ⟨Zf, B7⟩⟩, ⟨S4, S5, P1, P2, P3, P4⟩⟩
  ihave H1 := (sepL_sep es15) $$ H1
  icases H1 with ⟨Zr1, B5⟩
  ihave H3 := (sepL_sep es15) $$ H3
  icases H3 with ⟨Zr2, T1⟩
  ihave Hs1 := (sepL_sep es15) $$ Hs1
  icases Hs1 with ⟨Zs1, B4⟩
  ihave Hs2 := (sepL_sep es15) $$ Hs2
  icases Hs2 with ⟨Zs2, B6⟩
  imod (close_zero X W K c ⟨0, by decide⟩ w) $$ [P1] with P1
  · isplitr; · iexact HR
    iexact P1
  imod (close_zero X W K c ⟨1, by decide⟩ w) $$ [P2] with P2
  · isplitr; · iexact HR
    iexact P2
  imod (close_zero X W K c ⟨2, by decide⟩ w) $$ [P3] with P3
  · isplitr; · iexact HR
    iexact P3
  imod (close_zero X W K c ⟨3, by decide⟩ w) $$ [P4] with P4
  · isplitr; · iexact HR
    iexact P4
  imodintro
  unfold bufW tilesO zerW
  isplitl [B1 B2 B3 B30 B4 S4 B5 S5 B6 B60 B7 B8]
  · isplitl [B1]; · iapply (slabO_A c mXs w (xsV X W c w)); iapply (Entails.of_eq (show pay X W c (sx w) 0 = slabO c mXs w (xsV X W c w) from rfl)); iexact B1
    isplitl [B2]; · iapply (slabO_A c mXr w (xrV X W c w)); iexact B2
    isplitl [B3 B30]
    · iapply (Entails.of_eq (slabA_zero c mCmb w).symm)
      isplitl [B30]; · iapply (slotO_A c mCmb w 0 (cmbV X W c w 0)); iexact B30
      iapply (slotsO_A c mCmb w (cmbV X W c w)); iexact B3
    isplitl [B4 S4]
    · iapply (Entails.of_eq (slabA_zero c mS1b w).symm)
      isplitl [S4]; · iexact S4
      iapply (slotsO_A c mS1b w (s1V X W c w)); iexact B4
    isplitl [B5 S5]
    · iapply (Entails.of_eq (slabA_zero c mR1b w).symm)
      isplitl [S5]; · iexact S5
      iapply (slotsO_A c mR1b w (r1V X W c w)); iexact B5
    isplitl [B6 B60]
    · iapply (leaves_join c w (gsV X W c w))
      isplitl [B60]; · iexact B60
      iexact B6
    isplitl [B7]; · iapply (slabO_A c mFb w (fbV X W c w)); iapply (Entails.of_eq (show pay X W c (sf w) 0 = slabO c mFb w (fbV X W c w) from rfl)); iexact B7
    iapply (slabO_A c mPb w (pbV X W c w)); iexact B8
  isplitl [T0 T1 T2]
  · isplitl [T0 T1]
    · isplitl [T0]; · iexact T0
      iexact T1
    iexact T2
  isplitl [Zx Z1 Zf Z4]
  · isplitl [Zx]; · iexact Zx
    isplitl [Z1]; · iexact Z1
    isplitl [Zf]; · iexact Zf
    iexact Z4
  isplitl [P1 Zs1]
  · isplitl [P1]; · iexact P1
    iexact Zs1
  isplitl [P2 Zr1]
  · isplitl [P2]; · iexact P2
    iexact Zr1
  isplitl [P3 Zs2]
  · isplitl [P3]; · iexact P3
    iexact Zs2
  isplitl [P4]; · iexact P4
  iexact Zr2

theorem finish_halves (c : Dev nD) :
    finish X W c ⊢ (iprop((inX c (X c) ∗ inW c (W c)) ∗ partO c (partV X W c) ∗ zer c bar ∗ sepL ws fun w => leftW X W c w) : sProp 𝕄) := by
  unfold finish leftW
  iintro ⟨HI, HP, Hz, ⟨L1, L2, L3, L4⟩, H1, H2, H3, H4⟩
  isplitl [HI]; · iexact HI
  isplitl [HP]; · iexact HP
  isplitl [Hz]; · iexact Hz
  iapply (sepL_zip ws)
  isplitl [L1 L2 L3 L4]
  · iapply (sepL_zip ws)
    isplitl [L1]; · iexact L1
    iapply (sepL_zip ws)
    isplitl [L2]; · iexact L2
    iapply (sepL_zip ws)
    isplitl [L3]; · iexact L3
    iexact L4
  iapply (sepL_zip ws)
  isplitl [H1]; · iexact H1
  iapply (sepL_zip ws)
  isplitl [H2]; · iexact H2
  iapply (sepL_zip ws)
  isplitl [H3]; · iexact H3
  iexact H4

theorem sepL_upd {α : Type} {R : sProp 𝕄} [BI.Persistent R] {A B : α → sProp 𝕄} : ∀ (l : List α), (∀ a, iprop(R ∗ A a) ⊢ iprop(|={Set.univ}=> B a)) →
    iprop(R ∗ sepL l A) ⊢ (iprop(|={Set.univ}=> sepL l B) : sProp 𝕄)
  | [], _ => by unfold sepL; iintro -; imodintro; iempintro
  | a :: l, h => by
    unfold sepL
    iintro ⟨#HR, HA, HL⟩
    imod (h a) $$ [HA] with HA
    · isplitr; · iexact HR
      iexact HA
    imod (sepL_upd l h) $$ [HL] with HL
    · isplitr; · iexact HR
      iexact HL
    imodintro
    isplitl [HA]; · iexact HA
    iexact HL

theorem finish_to (K : Dev nD × Cl → ℕ) (c : Dev nD) :
    iprop(known X W K ∗ finish X W c ∗ sepL ws fun w => spareW (F := F) c w)
      ⊢ (|={Set.univ}=> iprop((inX c (X c) ∗ inW c (W c)) ∗ partO c (partV X W c) ∗ zer c bar
          ∗ (sepL ws fun w => bufW (F := F) c w) ∗ ownsTc c mOut fullShare (outF X W c) ∗ sepL ws fun w => zerW (F := F) c w) : sProp 𝕄) := by
  iintro ⟨#HR, HF, HS⟩
  ihave HF := (finish_halves X W c) $$ HF
  icases HF with ⟨HI, HP, Hz, HL⟩
  imod (sepL_upd (R := known X W K) ws (left_half X W K c)) $$ [HL HS] with H
  · isplitr; · iexact HR
    iapply (sepL_zip ws)
    isplitl [HL]; · iexact HL
    iexact HS
  imodintro
  ihave H := (sepL_sep ws) $$ H
  icases H with ⟨HB, H⟩
  ihave H := (sepL_sep ws) $$ H
  icases H with ⟨HT, HZ⟩
  isplitl [HI]; · iexact HI
  isplitl [HP]; · iexact HP
  isplitl [Hz]; · iexact Hz
  isplitl [HB]; · iexact HB
  isplitl [HT]; · iapply (tiles_join X W c); iexact HT
  iexact HZ

end Cert.KernelIdeal.Gelu

end
-- ==== Proof.Credits.lean ====
/- What all the devices together owe each semaphore: exactly the credit its device waits for. -/
module

public import proofs.«01_k».proof.Proof.Ends

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem cell_eq_iff {c c' : Dev nD} {x x' : Cl} : cell c x = cell c' x' ↔ (c, x) = (c', x') :=
  ⟨fun h => Prod.ext (cell_inj h).1 (cell_inj h).2, fun h => by rw [(Prod.mk.inj h).1, (Prod.mk.inj h).2]⟩

open Classical in
/-- The debt to a semaphore is its amount, if the list names it. -/
theorem Os_at (c : Dev nD) (x : Cl) : ∀ l : List (Dev nD × Cl), l.Nodup → Os l (cell c x) () = if (c, x) ∈ l then amt x else 0
  | [], _ => (if_neg List.not_mem_nil).symm
  | y :: l, hn => by
    obtain ⟨hy, hl⟩ := List.nodup_cons.mp hn
    unfold Os
    rw [Pi.add_apply, Finsupp.add_apply, tallyAt_apply, Os_at c x l hl]
    by_cases h : y = (c, x)
    · subst h
      rw [if_neg hy, if_pos List.mem_cons_self, Nat.zero_add]
      exact if_pos ⟨rfl, rfl⟩
    · rw [if_neg (c := cell c x = cell y.1 y.2 ∧ () = ()) fun h' => h (cell_eq_iff.mp h'.1).symm, Nat.add_zero]
      exact if_congr ⟨List.mem_cons_of_mem y, fun hm => (List.mem_cons.mp hm).resolve_left fun h' => h h'.symm⟩ rfl rfl

/-- A number for each semaphore of each device. -/
def code (y : Dev nD × Cl) : ℕ := y.1.val + 32 * match y.2 with
  | none => 0
  | some (.inl (i, w)) => 1 + w.val + 2 * i.val
  | some (.inr (i, w, e)) => 9 + w.val + 2 * (i.val + 4 * e.val)
theorem codes_nodup : ∀ c : Dev nD, ((debts0 c).map code).Nodup := by decide +kernel
/-- No device raises a semaphore twice. -/
theorem debts_nodup (c : Dev nD) : (debts0 c).Nodup := List.Nodup.of_map code (codes_nodup c)

theorem mem_ws : ∀ w : Fin 2, w ∈ ws := by decide
theorem mem_es15 : ∀ e : Fin 16, e ∈ es15 ↔ e ≠ 0 := by decide

theorem mem_debts (d : Dev nD) (y : Dev nD × Cl) : y ∈ debts0 d ↔
    y = (partnerD d, bar) ∨ y ∈ sigDebts d ∨ y ∈ xDebts d ws ∨ (∃ w, w ∈ ws ∧ y ∈ sDebts d w es15) ∨ (∃ w, w ∈ ws ∧ y ∈ gDebts d w es15) ∨ y ∈ fDebts d ws := by
  unfold debts0 debts1 debts2 debts3 debts4
  rw [List.mem_cons, List.mem_append, List.mem_append, List.mem_append, List.mem_append, List.mem_flatMap, List.mem_flatMap]

theorem named_bar (c d : Dev nD) : (c, bar) ∈ debts0 d ↔ ∃ e : Fin 16, tgtD d e = c := by
  rw [mem_debts]
  constructor
  · rintro (h | h | h | ⟨w, _, h⟩ | ⟨w, _, h⟩ | h)
    · exact ⟨0, (tgt_zero d).trans (Prod.mk.inj h).1.symm⟩
    all_goals obtain ⟨e, he, h⟩ := List.mem_map.mp h
    · exact ⟨e, (tgt_of_ne d ((mem_es15 e).mp he)).trans (Prod.mk.inj h).1⟩
    all_goals exact absurd (Prod.mk.inj h).2 (fun h' => by cases h')
  · rintro ⟨e, h⟩
    by_cases he : e = 0
    · subst he
      exact .inl (by rw [← h, tgt_zero])
    · exact .inr (.inl (List.mem_map.mpr ⟨e, (mem_es15 e).mpr he, by rw [← h, tgt_of_ne d he]⟩))

theorem dc_inl {i i' : Fin 4} {w w' : Fin 2} (h : (some (.inl (i, w)) : Cl) = some (.inl (i', w'))) : i = i' ∧ w = w' := by
  have := Sum.inl.inj (Option.some.inj h); exact Prod.mk.inj this
theorem dc_inr {i i' : Fin 4} {w w' : Fin 2} {e e' : Fin 16} (h : (some (.inr (i, w, e)) : Cl) = some (.inr (i', w', e'))) : i = i' ∧ w = w' ∧ e = e' := by
  have := Prod.mk.inj (Sum.inr.inj (Option.some.inj h)); exact ⟨this.1, Prod.mk.inj this.2⟩

theorem named_rx (c d : Dev nD) (w : Fin 2) : (c, rx w) ∈ debts0 d ↔ d = partnerD c := by
  rw [mem_debts]
  constructor
  · rintro (h | h | h | ⟨w', _, h⟩ | ⟨w', _, h⟩ | h)
    · exact absurd (Prod.mk.inj h).2 (fun h' => by cases h')
    all_goals obtain ⟨e, he, h⟩ := List.mem_map.mp h
    · exact absurd (Prod.mk.inj h).2 (fun h' => by cases h')
    · rw [← (Prod.mk.inj h).1, partner_partner]
    · exact absurd (Prod.mk.inj h).2 (fun h' => by cases h')
    · exact absurd (Prod.mk.inj h).2 (fun h' => by cases h')
    · exact absurd (dc_inl (Prod.mk.inj h).2).1 (by decide)
  · rintro rfl
    exact .inr (.inr (.inl (List.mem_map.mpr ⟨w, mem_ws w, by rw [partner_partner]⟩)))
theorem named_rf (c d : Dev nD) (w : Fin 2) : (c, rf w) ∈ debts0 d ↔ d = partnerD c := by
  rw [mem_debts]
  constructor
  · rintro (h | h | h | ⟨w', _, h⟩ | ⟨w', _, h⟩ | h)
    · exact absurd (Prod.mk.inj h).2 (fun h' => by cases h')
    all_goals obtain ⟨e, he, h⟩ := List.mem_map.mp h
    · exact absurd (Prod.mk.inj h).2 (fun h' => by cases h')
    · exact absurd (dc_inl (Prod.mk.inj h).2).1 (by decide)
    · exact absurd (Prod.mk.inj h).2 (fun h' => by cases h')
    · exact absurd (Prod.mk.inj h).2 (fun h' => by cases h')
    · rw [← (Prod.mk.inj h).1, partner_partner]
  · rintro rfl
    exact .inr (.inr (.inr (.inr (.inr (List.mem_map.mpr ⟨w, mem_ws w, by rw [partner_partner]⟩)))))
theorem named_r1 (c d : Dev nD) (w : Fin 2) (e : Fin 16) : (c, r1 w e) ∈ debts0 d ↔ e ≠ 0 ∧ d = mineD c e := by
  rw [mem_debts]
  constructor
  · rintro (h | h | h | ⟨w', _, h⟩ | ⟨w', _, h⟩ | h)
    · exact absurd (Prod.mk.inj h).2 (fun h' => by cases h')
    all_goals obtain ⟨e', he, h⟩ := List.mem_map.mp h
    · exact absurd (Prod.mk.inj h).2 (fun h' => by cases h')
    · exact absurd (Prod.mk.inj h).2 (fun h' => by cases h')
    · have he' := (dc_inr (Prod.mk.inj h).2).2.2
      rw [← he', ← (Prod.mk.inj h).1, mine_opp]
      exact ⟨opp_ne ((mem_es15 e').mp he), rfl⟩
    · exact absurd (dc_inr (Prod.mk.inj h).2).1 (by decide)
    · exact absurd (Prod.mk.inj h).2 (fun h' => by cases h')
  · rintro ⟨he, rfl⟩
    exact .inr (.inr (.inr (.inl ⟨w, mem_ws w, List.mem_map.mpr ⟨opp e, (mem_es15 _).mpr (opp_ne he), by rw [mine_opp, opp_opp]⟩⟩)))
theorem named_r2 (c d : Dev nD) (w : Fin 2) (e : Fin 16) : (c, r2 w e) ∈ debts0 d ↔ e ≠ 0 ∧ d = mineD c e := by
  rw [mem_debts]
  constructor
  · rintro (h | h | h | ⟨w', _, h⟩ | ⟨w', _, h⟩ | h)
    · exact absurd (Prod.mk.inj h).2 (fun h' => by cases h')
    all_goals obtain ⟨e', he, h⟩ := List.mem_map.mp h
    · exact absurd (Prod.mk.inj h).2 (fun h' => by cases h')
    · exact absurd (Prod.mk.inj h).2 (fun h' => by cases h')
    · exact absurd (dc_inr (Prod.mk.inj h).2).1 (by decide)
    · have he' := (dc_inr (Prod.mk.inj h).2).2.2
      rw [← he', ← (Prod.mk.inj h).1, mine_opp]
      exact ⟨opp_ne ((mem_es15 e').mp he), rfl⟩
    · exact absurd (Prod.mk.inj h).2 (fun h' => by cases h')
  · rintro ⟨he, rfl⟩
    exact .inr (.inr (.inr (.inr (.inl ⟨w, mem_ws w, List.mem_map.mpr ⟨opp e, (mem_es15 _).mpr (opp_ne he), by rw [mine_opp, opp_opp]⟩⟩))))

/-! ## The credits dealt at launch -/

/-- What device `c` owes at launch. -/
abbrev O₀ (c : Dev nD) : CellTallies nD τ sig Unit := Os (debts0 c)

theorem owed_at (c d : Dev nD) (x : Cl) (p : Prop) [Decidable p] (h : (c, x) ∈ debts0 d ↔ p) : O₀ d (cell c x) () = if p then amt x else 0 := by
  classical
  rw [Os_at c x (debts0 d) (debts_nodup d)]
  exact if_congr h rfl rfl

theorem signals : ∀ c : Dev nD, (∑ d : Dev nD, if ∃ e : Fin 16, tgtD d e = c then 1 else 0) = 16 := by decide +kernel
theorem sum_bar (c : Dev nD) : (∑ d : Dev nD, O₀ d (cell c bar) ()) = (dutiesOf bar).card * amt bar := by
  rw [Finset.sum_congr rfl fun d _ => owed_at c d bar _ (named_bar c d)]
  exact (signals c).trans (by decide)
theorem sum_one (c d₀ : Dev nD) (x : Cl) (hx : dutiesOf x = {0}) (h : ∀ d, (c, x) ∈ debts0 d ↔ d = d₀) :
    (∑ d : Dev nD, O₀ d (cell c x) ()) = (dutiesOf x).card * amt x := by
  rw [Finset.sum_congr rfl fun d _ => owed_at c d x _ (h d), Finset.sum_ite_eq' Finset.univ d₀ fun _ => amt x, if_pos (Finset.mem_univ _), hx, Finset.card_singleton, Nat.one_mul]

/-- The launch's credit at a semaphore. -/
def dealtAt (c : Dev nD) (x : Cl) : sProp 𝕄 := cred (tallyOn (cell c x) (launchCredit (Pipeline.owing O₀) 0 (cell c x)))

theorem dealt_crd (c : Dev nD) (x : Cl) (h : (∑ d : Dev nD, O₀ d (cell c x) ()) = (dutiesOf x).card * amt x) : dealtAt (F := F) c x = (crd c x : sProp 𝕄) := by
  unfold dealtAt crd
  refine congrArg _ ?_
  unfold tallyAt
  refine congrArg _ (Finsupp.ext fun u => ?_)
  cases u
  rw [Pipeline.launchCredit_owing, Finsupp.single_eq_same, h]

theorem dealt_all (c : Dev nD) : (Pipeline.launchCred O₀ c : sProp 𝕄) ⊢ bigSep Finset.univ fun x : Cl => dealtAt (F := F) c x := by
  classical
  unfold Pipeline.launchCred
  iintro H
  ihave H := (Entails.of_eq (show _ = iprop(_ ∗ _) from bigSep_sdiff_split (Finset.subset_univ (Finset.univ.map ⟨csem, csem_inj⟩)))) $$ H
  icases H with ⟨H, -⟩
  ihave H := (Entails.of_eq (bigSep_map (s := Finset.univ) ⟨csem, csem_inj⟩)) $$ H
  iexact H

theorem crd_of (c : Dev nD) : (Pipeline.launchCred O₀ c : sProp 𝕄) ⊢ iprop(crd c bar ∗ sepL ws fun w => crdW (F := F) c w) := by
  iintro H
  ihave H := (dealt_all c) $$ H
  ihave H := (Entails.of_eq ((cl_eq fun x => dealtAt (F := F) c x).trans (by rw [dc_eq fun x => dealtAt (F := F) c x, dealt_crd c bar (sum_bar c)]))) $$ H
  icases H with ⟨Hb, H⟩
  isplitl [Hb]; · iexact Hb
  iapply (show (sepL ws fun w =>
    iprop((dealtAt (F := F) c (sx w) ∗ dealtAt (F := F) c (rx w) ∗ dealtAt (F := F) c (sf w) ∗ dealtAt (F := F) c (rf w))
      ∗ (dealtAt (F := F) c (s1 w 0) ∗ sepL es15 fun e => dealtAt (F := F) c (s1 w e)) ∗ (dealtAt (F := F) c (r1 w 0) ∗ sepL es15 fun e => dealtAt (F := F) c (r1 w e))
      ∗ (dealtAt (F := F) c (s2 w 0) ∗ sepL es15 fun e => dealtAt (F := F) c (s2 w e)) ∗ (dealtAt (F := F) c (r2 w 0) ∗ sepL es15 fun e => dealtAt (F := F) c (r2 w e))))
    ⊢ (sepL ws fun w => crdW (F := F) c w : sProp 𝕄) from sepL_mono fun w _ => by
      unfold crdW
      rw [dealt_crd c (rx w) (sum_one c (partnerD c) (rx w) rfl fun d => named_rx c d w), dealt_crd c (rf w) (sum_one c (partnerD c) (rf w) rfl fun d => named_rf c d w),
        sepL_congr (l := es15) fun e he => dealt_crd (F := F) c (r1 w e) (sum_one c (mineD c e) (r1 w e) (once (es15_ne e he)) fun d => (named_r1 c d w e).trans (and_iff_right (es15_ne e he))),
        sepL_congr (l := es15) fun e he => dealt_crd (F := F) c (r2 w e) (sum_one c (mineD c e) (r2 w e) (once (es15_ne e he)) fun d => (named_r2 c d w e).trans (and_iff_right (es15_ne e he)))]
      iintro ⟨⟨-, H1, -, H2⟩, -, ⟨-, H3⟩, -, -, H4⟩
      isplitl [H1]; · iexact H1
      isplitl [H2]; · iexact H2
      isplitl [H3]; · iexact H3
      iexact H4)
  iexact H

end Cert.KernelIdeal.Gelu

end
-- ==== Proof.Deal.lean ====
/- The launch's rights dealt out: every semaphore's place in its schedule allocated at once, its tokens handed to the
   devices that pay with them. -/
module

public import proofs.«01_k».proof.Proof.Credits

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .bf16) (W : Dev nD → Vec F S32x1024 .bf16)

/-! ## The semaphores and the tokens as minted -/

def allCells : Finset (GSem nD τ sig) :=
  Finset.univ.map ⟨fun y : Dev nD × Cl => cell y.1 y.2, fun _ _ h => Prod.ext (cell_inj h).1 (cell_inj h).2⟩

/-- A token: a signal to a device's barrier by distance, or the completion at a DMA semaphore. -/
abbrev Tk : Type := Dev nD × (Fin 16 ⊕ DC)
def tkAt : Tk → GSem nD τ sig × ℕ × Fin 16
  | (c, .inl d) => (cell c bar, 0, d)
  | (c, .inr x) => (cell c (some x), 0, 0)
theorem tkAt_inj : Function.Injective tkAt := by
  rintro ⟨c, d | x⟩ ⟨c', d' | x'⟩ h
  · have h1 := cell_inj (Prod.mk.inj h).1
    have h2 := (Prod.mk.inj (Prod.mk.inj h).2).2
    rw [h1.1, h2]
  · exact absurd (cell_inj (Prod.mk.inj h).1).2 (fun h' => by cases h')
  · exact absurd (cell_inj (Prod.mk.inj h).1).2 (fun h' => by cases h')
  · have h1 := cell_inj (Prod.mk.inj h).1
    rw [h1.1, Option.some.inj h1.2]
def allToks : Finset (GSem nD τ sig × ℕ × Fin 16) := Finset.univ.map ⟨tkAt, tkAt_inj⟩

/-- The launch's ghost element: the pipeline's and the kernel's. -/
def u₀ : UU := (initOf (Pipeline.cells cfgs cellOf_inj) (Pipeline.launchToks cfgs cellOf_inj), initOf allCells allToks)

/-- The tokens of a device's own semaphores. -/
def minted (c : Dev nD) : sProp 𝕄 :=
  iprop((bigSep Finset.univ fun d : Fin 16 => tok c bar d) ∗ bigSep Finset.univ fun x : DC => tok c (some x) 0)
/-- What the launch element is, device by device. -/
def funds (c : Dev nD) : sProp 𝕄 :=
  iprop((bigSep Finset.univ fun x : Cl => roundState ER (sched X W) (cell c x) 0)
    ∗ ((bigSep Finset.univ fun x : Cl => pos (F := F) c x) ∗ bigSep Finset.univ fun x : Cl => reached ER (cell c x) 0) ∗ minted c)

theorem cells_each (A : GSem nD τ sig → sProp 𝕄) :
    bigSep allCells A = bigSep Finset.univ fun c : Dev nD => bigSep Finset.univ fun x : Cl => A (cell c x) := by
  unfold allCells; rw [bigSep_map, bigSep_univ_prod]; rfl
theorem toks_each : bigSep allToks (fun x => (dutyTok ER x.1 x.2.1 x.2.2 : sProp 𝕄)) = bigSep Finset.univ fun c : Dev nD => minted c := by
  unfold allToks; rw [bigSep_map, bigSep_univ_prod]
  exact bigSep_congr fun c _ => by unfold minted; rw [bigSep_univ_sum]; rfl

theorem funded : BI.own (ER (initOf allCells allToks)) ⊢ (|==> bigSep Finset.univ (funds X W) : sProp 𝕄) := by
  iintro HX
  imod (Rounds.fund ER (sched X W) allCells allToks) $$ HX with ⟨Hs, Hr, Ha, Ht⟩
  imodintro
  ihave Hs := (Entails.of_eq (cells_each fun g => roundState ER (sched X W) g 0)) $$ Hs
  ihave Hr := (Entails.of_eq (cells_each fun g => reached ER g 0)) $$ Hr
  ihave Ha := (Entails.of_eq (cells_each fun g => atPos ER g 0 ∅ 0)) $$ Ha
  ihave Ht := (Entails.of_eq toks_each) $$ Ht
  unfold funds; simp only [bigSep_sep']
  isplitl [Hs]; · iexact Hs
  isplitl [Ha Hr]
  · isplitl [Ha]; · iexact Ha
    iexact Hr
  iexact Ht

/-! ## The tokens dealt -/

/-- Whose token a device gets for a DMA semaphore: its own for what it sends, the target's for what it fills. -/
def deal : Dev nD × DC → Dev nD × DC
  | (c, .inl (i, w)) => (if i.val % 2 = 1 then partnerD c else c, .inl (i, w))
  | (c, .inr (i, w, e)) => if i.val % 2 = 1 then (tgtD c e, .inr (i, w, opp e)) else (c, .inr (i, w, e))
theorem deal_deal (y : Dev nD × DC) : deal (deal y) = y := by
  rcases y with ⟨c, ⟨i, w⟩ | ⟨i, w, e⟩⟩
  · show (if i.val % 2 = 1 then partnerD (if i.val % 2 = 1 then partnerD c else c) else (if i.val % 2 = 1 then partnerD c else c), Sum.inl (i, w)) = _
    by_cases h : i.val % 2 = 1
    · rw [if_pos h, if_pos h, partner_partner]
    · rw [if_neg h, if_neg h]
  · by_cases h : i.val % 2 = 1
    · rw [show deal (c, .inr (i, w, e)) = (tgtD c e, .inr (i, w, opp e)) from if_pos h, show deal (tgtD c e, .inr (i, w, opp e)) = (tgtD (tgtD c e) (opp e), .inr (i, w, opp (opp e))) from if_pos h,
        tgt_opp, opp_opp]
    · rw [show deal (c, .inr (i, w, e)) = (c, .inr (i, w, e)) from if_neg h, show deal (c, .inr (i, w, e)) = (c, .inr (i, w, e)) from if_neg h]
def dealE : Dev nD × DC ≃ Dev nD × DC := ⟨deal, deal, deal_deal, deal_deal⟩

/-- The tokens a device pays with. -/
def paid (c : Dev nD) : sProp 𝕄 := iprop(tokB (F := F) c ∗ sepL ws fun w => tokW (F := F) c w)

theorem paid_bar (c : Dev nD) : (bigSep Finset.univ fun d : Fin 16 => tok (F := F) (tgtD c d) bar (opp d)) = (tokB (F := F) c : sProp 𝕄) := by
  rw [all16, sepL_congr (l := es15) fun e he => by rw [tgt_of_ne c (es15_ne e he)], tgt_zero]; rfl
theorem paid_dma (c : Dev nD) : (bigSep Finset.univ fun x : DC => tok (F := F) (deal (c, x)).1 (some (deal (c, x)).2) 0) ⊢ (sepL ws fun w => tokW (F := F) c w : sProp 𝕄) := by
  rw [dc_eq fun x => match x with
    | none => iprop(emp)
    | some x => tok (F := F) (deal (c, x)).1 (some (deal (c, x)).2) 0]
  refine sepL_mono fun w _ => ?_
  unfold tokW
  iintro ⟨H0, ⟨-, H1⟩, ⟨-, H2⟩, ⟨-, H3⟩, -, H4⟩
  isplitl [H0]; · iexact H0
  isplitl [H1]; · iexact H1
  isplitl [H2]
  · iapply (Entails.of_eq (sepL_congr (l := es15) fun e he => show tok (F := F) (tgtD c e) (r1 w (opp e)) 0 = tok (mineD c e) (r1 w (opp e)) 0 by rw [tgt_of_ne c (es15_ne e he)]))
    iexact H2
  isplitl [H3]; · iexact H3
  iapply (Entails.of_eq (sepL_congr (l := es15) fun e he => show tok (F := F) (tgtD c e) (r2 w (opp e)) 0 = tok (mineD c e) (r2 w (opp e)) 0 by rw [tgt_of_ne c (es15_ne e he)]))
  iexact H4

theorem toks_dealt : (bigSep Finset.univ fun c : Dev nD => (minted c : sProp 𝕄)) ⊢ bigSep Finset.univ fun c : Dev nD => paid c := by
  unfold minted paid
  rw [bigSep_sep', bigSep_sep', ← bigSep_univ_prod (fun y : Dev nD × Fin 16 => (tok (F := F) y.1 bar y.2 : sProp 𝕄)), bigSep_univ_equiv around, bigSep_univ_prod,
    ← bigSep_univ_prod (fun y : Dev nD × DC => (tok (F := F) y.1 (some y.2) 0 : sProp 𝕄)), bigSep_univ_equiv dealE, bigSep_univ_prod]
  exact BIClass.sep_mono (bigSep_mono fun c _ => Entails.of_eq (paid_bar (F := F) c)) (bigSep_mono fun c _ => paid_dma (F := F) c)

/-! ## The invariants allocated -/

/-- What every device may know and keep, under some names. -/
def records (K : Dev nD × Cl → ℕ) : sProp 𝕄 :=
  iprop((bigSep Finset.univ fun y : Dev nD × Cl => cellInv ER (sched X W) (K y) (cell y.1 y.2))
    ∗ bigSep Finset.univ fun y : Dev nD × Cl => reached ER (cell y.1 y.2) 0)
instance records_persistent (K : Dev nD × Cl → ℕ) : BI.Persistent (records X W K) := by unfold records; infer_instance

/-- What a device has for itself: its rights to wait and the tokens it pays with. -/
def kept (c : Dev nD) : sProp 𝕄 := iprop((pos (F := F) c bar ∗ sepL ws fun w => posW (F := F) c w) ∗ paid (F := F) c)
/-- What a device has after the deal. -/
def dealt (c : Dev nD) : sProp 𝕄 := iprop(∃ K, records X W K ∗ kept (F := F) c)

/-- All the semaphores of the kernel on a device, at zero. -/
theorem zeros_eq (c : Dev nD) :
    iprop(Pipeline.ownSems0 (Ix := Unit) (Name := ℕ) (U := UU) (Lvl := ℕ) (Val := Elt F) (τ := τ) osem c ∗ unscopedSems0 c)
      = (bigSep Finset.univ fun x : Cl => zer (F := F) c x : sProp 𝕄) := by
  rw [cl_eq, show (unscopedSems0 c : sProp 𝕄) = zer c bar from by
    unfold unscopedSems0; rw [bigSep_eq_bigSepL_of_eq [SemLoc.reg (sig.barrier 0 rfl)] (by decide) (by decide)]; rfl]
  rw [show (Pipeline.ownSems0 osem c : sProp 𝕄) = bigSep Finset.univ fun x : DC => zer (F := F) c (some x) from rfl]
  exact BI.equiv_iff.mp ⟨BI.sep_comm, BI.sep_comm⟩

theorem alloc_at (c : Dev nD) :
    iprop(Pipeline.ownSems0 (Ix := Unit) (Name := ℕ) (U := UU) (Lvl := ℕ) (Val := Elt F) (τ := τ) osem c ∗ unscopedSems0 c ∗ funds X W c)
      ⊢ |={Set.univ}=> iprop((bigSep Finset.univ fun x => iprop(∃ κ : ℕ, cellInv ER (sched X W) κ (cell c x)))
          ∗ ((bigSep Finset.univ fun x : Cl => pos (F := F) c x) ∗ bigSep Finset.univ fun x : Cl => reached ER (cell c x) 0) ∗ minted (F := F) c) := by
  unfold funds
  iintro ⟨Ho, Hu, Hs, Hr⟩
  ihave Hz := (Entails.of_eq (zeros_eq (F := F) c)) $$ [Ho Hu]
  · isplitl [Ho] <;> iassumption
  imod (show iprop((bigSep Finset.univ fun x : Cl => zer (F := F) c x) ∗ bigSep Finset.univ fun x : Cl => roundState ER (sched X W) (cell c x) 0)
      ⊢ (|={Set.univ}=> bigSep Finset.univ fun x => iprop(∃ κ : ℕ, cellInv ER (sched X W) κ (cell c x)) : sProp 𝕄) from by
        rw [← bigSep_sep']
        exact (bigSep_mono fun x _ => (Rounds.body_intro ER (sched X W) (cell c x)).trans inv_alloc).trans (bigSep_fupd _ _)) $$ [Hz Hs] with Hi
  · isplitl [Hz] <;> iassumption
  imodintro
  isplitl [Hi]; · iexact Hi
  iexact Hr

theorem each_of {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← bigSep_sep']; exact bigSep_mono h)

theorem gathered :
    (bigSep Finset.univ fun c : Dev nD => iprop((bigSep Finset.univ fun x => iprop(∃ κ : ℕ, cellInv ER (sched X W) κ (cell c x)))
          ∗ ((bigSep Finset.univ fun x : Cl => pos (F := F) c x) ∗ bigSep Finset.univ fun x : Cl => reached ER (cell c x) 0) ∗ minted (F := F) c) : sProp 𝕄)
      ⊢ bigSep Finset.univ (dealt X W) := by
  classical
  rw [bigSep_sep', bigSep_sep', bigSep_sep', ← bigSep_univ_prod (fun y : Dev nD × Cl => iprop(∃ κ : ℕ, cellInv ER (sched X W) κ (cell y.1 y.2))),
    ← bigSep_univ_prod (fun y : Dev nD × Cl => (reached ER (cell y.1 y.2) 0 : sProp 𝕄))]
  iintro ⟨HI, ⟨Hp, #HR⟩, Ht⟩
  ihave HK := (BI.bigSep_exists_pi Finset.univ (fun (y : Dev nD × Cl) (κ : ℕ) => (cellInv ER (sched X W) κ (cell y.1 y.2) : sProp 𝕄))) $$ HI
  icases HK with ⟨%K, #HI⟩
  ihave Ht := (toks_dealt (F := F)) $$ Ht
  iapply (each_of (R := records X W K) (A := fun c => iprop((bigSep Finset.univ fun x : Cl => pos (F := F) c x) ∗ paid (F := F) c)) fun c _ => by
    unfold dealt kept
    rw [cl_eq, dc_eq]
    iintro ⟨HR, H⟩
    iexists K
    isplitl [HR]; · iexact HR
    iexact H)
  isplitr
  · unfold records; isplitl; · iexact HI
    iexact HR
  · iapply (Entails.of_eq (bigSep_sep' Finset.univ (fun c : Dev nD => bigSep Finset.univ fun x : Cl => pos (F := F) c x) (paid (F := F))).symm)
    isplitl [Hp]; · iexact Hp
    iexact Ht

/-- The semaphores' invariants are allocated on all the devices at once, and the tokens dealt. -/
theorem all_dealt : (bigSep Finset.univ fun c => iprop(Pipeline.ownSems0 (Ix := Unit) (Name := ℕ) (U := UU) (Lvl := ℕ) (Val := Elt F) (τ := τ) osem c ∗ unscopedSems0 c ∗ funds X W c) : sProp 𝕄)
    ⊢ |={Set.univ}=> bigSep Finset.univ (dealt X W) :=
  ((bigSep_mono fun c _ => alloc_at X W c).trans (bigSep_fupd _ _)).trans (BI.fupd_mono (gathered X W))

end Cert.KernelIdeal.Gelu

end
-- ==== Proof.Launch.lean ====
/- The kernel launched on the thirty-two devices: each runs its body, all of them end, and each leaves the whole result. -/
module

public import proofs.«01_k».proof.Proof.Deal
public import Idealize.ShloMosaic.Lib.Pipeline.CollectiveSegs
public import proofs.«01_k».proof.Proof.Gen.KernelIdeal.Points
public import proofs.«01_k».proof.Proof.Gen.KernelIdeal.Frame

@[expose] public section

noncomputable section

namespace Cert.KernelIdeal.Gelu

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The buffers -/

theorem whole_eq {s : Shape} {e' : EltTy} (c : Dev nD) (m : Memref sig .tc .vmem s e') (h : m.view.set = Finset.univ) :
    wholeA (F := F) c m = (iprop(∃ f : m.view.ty.Contents (Elt F), m.view.loc (c : Thread nD τ) ↦{fullShare} f) : sProp 𝕄) := by
  unfold wholeA; rw [h]

theorem whole_set (b : Ref sig .tc) : (Memref.whole b).view.set = Finset.univ := by simp only [Memref.view_whole, View.set_whole]

theorem bufs_split (c : Dev nD) :
    (Pipeline.scopedRest spec0 c : sProp 𝕄) ⊢ iprop((∃ v, partO (F := F) c v) ∗ sepL ws fun w => bufW (F := F) c w) := by
  rw [scopedRest0_eq]
  unfold bufW
  iintro ⟨H0, H1, H2, H3, H4, H5, H6, H7, H8⟩
  isplitl [H0]; · unfold partO; iexact H0
  ihave H1 := ((Entails.of_eq (whole_eq c mXs (whole_set _)).symm).trans (slots_split (F := F) c mXs)) $$ H1
  ihave H2 := ((Entails.of_eq (whole_eq c mXr (whole_set _)).symm).trans (slots_split (F := F) c mXr)) $$ H2
  ihave H3 := ((Entails.of_eq (whole_eq c mCmb (whole_set _)).symm).trans (slots_split (F := F) c mCmb)) $$ H3
  ihave H4 := ((Entails.of_eq (whole_eq c mS1b (whole_set _)).symm).trans (slots_split (F := F) c mS1b)) $$ H4
  ihave H5 := ((Entails.of_eq (whole_eq c mR1b (whole_set _)).symm).trans (slots_split (F := F) c mR1b)) $$ H5
  ihave H6 := ((Entails.of_eq (whole_eq c mGs (whole_set _)).symm).trans (halves_split (F := F) c)) $$ H6
  ihave H7 := ((Entails.of_eq (whole_eq c mFb (whole_set _)).symm).trans (slots_split (F := F) c mFb)) $$ H7
  ihave H8 := ((Entails.of_eq (whole_eq c mPb (whole_set _)).symm).trans (slots_split (F := F) c mPb)) $$ H8
  iapply (sepL_zip ws); isplitl [H1]; · iexact H1
  iapply (sepL_zip ws); isplitl [H2]; · iexact H2
  iapply (sepL_zip ws); isplitl [H3]; · iexact H3
  iapply (sepL_zip ws); isplitl [H4]; · iexact H4
  iapply (sepL_zip ws); isplitl [H5]; · iexact H5
  iapply (sepL_zip ws); isplitl [H6]; · iexact H6
  iapply (sepL_zip ws); isplitl [H7]; · iexact H7
  iexact H8

theorem bufs_join (c : Dev nD) :
    iprop((∃ v, partO (F := F) c v) ∗ sepL ws fun w => bufW (F := F) c w) ⊢ (Pipeline.scopedRest spec0 c : sProp 𝕄) := by
  rw [scopedRest0_eq]
  unfold bufW
  iintro ⟨H0, H⟩
  ihave H := (sepL_sep ws) $$ H
  icases H with ⟨H1, H⟩
  ihave H := (sepL_sep ws) $$ H
  icases H with ⟨H2, H⟩
  ihave H := (sepL_sep ws) $$ H
  icases H with ⟨H3, H⟩
  ihave H := (sepL_sep ws) $$ H
  icases H with ⟨H4, H⟩
  ihave H := (sepL_sep ws) $$ H
  icases H with ⟨H5, H⟩
  ihave H := (sepL_sep ws) $$ H
  icases H with ⟨H6, H⟩
  ihave H := (sepL_sep ws) $$ H
  icases H with ⟨H7, H8⟩
  ihave H1 := ((slots_join (F := F) c mXs).trans (Entails.of_eq (whole_eq c mXs (whole_set _)))) $$ H1
  ihave H2 := ((slots_join (F := F) c mXr).trans (Entails.of_eq (whole_eq c mXr (whole_set _)))) $$ H2
  ihave H3 := ((slots_join (F := F) c mCmb).trans (Entails.of_eq (whole_eq c mCmb (whole_set _)))) $$ H3
  ihave H4 := ((slots_join (F := F) c mS1b).trans (Entails.of_eq (whole_eq c mS1b (whole_set _)))) $$ H4
  ihave H5 := ((slots_join (F := F) c mR1b).trans (Entails.of_eq (whole_eq c mR1b (whole_set _)))) $$ H5
  ihave H6 := ((halves_join (F := F) c).trans (Entails.of_eq (whole_eq c mGs (whole_set _)))) $$ H6
  ihave H7 := ((slots_join (F := F) c mFb).trans (Entails.of_eq (whole_eq c mFb (whole_set _)))) $$ H7
  ihave H8 := ((slots_join (F := F) c mPb).trans (Entails.of_eq (whole_eq c mPb (whole_set _)))) $$ H8
  isplitl [H0]; · unfold partO; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem WP_upd (c : Dev nD) (p : P F PUnit) (R : sProp 𝕄) : (WP c p fun _ => iprop(|={Set.univ}=> R)) ⊢ WP c p fun _ => R := by
  unfold WP; exact wp_fupd frame (wpE (defs₀ (F := F)) 𝒱₀ (c : Thread nD τ) none) Set.univ p _

/-! ## The body from the launch's hands to the launch's hands -/

section Run

variable (X : Dev nD → Vec F S1024x32 .bf16) (W : Dev nD → Vec F S32x1024 .bf16)

/-- What a device starts from: what it knows, the tokens it pays with, its credits and its rights to wait. -/
def ready (c : Dev nD) : sProp 𝕄 :=
  iprop((∃ K, known X W K) ∗ (tokB (F := F) c ∗ sepL ws fun w => tokW (F := F) c w) ∗ (crd c bar ∗ sepL ws fun w => crdW (F := F) c w)
    ∗ (pos c bar ∗ sepL ws fun w => posW (F := F) c w))
/-- What it ends with besides the buffers: all its semaphores at zero. -/
def zeros (c : Dev nD) : sProp 𝕄 := iprop(zer c bar ∗ sepL ws fun w => zerW (F := F) c w)

theorem whole_run (c : Dev nD) :
    iprop(ready X W c ∗ Pipeline.scopedRest spec0 c ∗ ow c (debts0 c) ∗ (inX c (X c) ∗ inW c (W c)) ∗ wholeA (F := F) c mOut)
      ⊢ (WP c prog fun _ => iprop((Pipeline.scopedRest spec0 c ∗ zeros (F := F) c) ∗ ow c [] ∗ (inX c (X c) ∗ inW c (W c)) ∗ ownsTc c mOut fullShare (outF X W c)) : sProp 𝕄) := by
  unfold ready zeros
  iintro ⟨⟨⟨%K, #HK⟩, ⟨Kb, KW⟩, ⟨Cb, CW⟩, Pb, PW⟩, HB, HO, ⟨HX, HW⟩, HT⟩
  ihave HB := (bufs_split (F := F) c) $$ HB
  icases HB with ⟨HP, HB⟩
  ihave HT := (tiles_split (F := F) c) $$ HT
  ihave HU := ((sepL_mono (l := ws) fun w _ => start_half (F := F) c w).trans (sepL_sep ws)) $$ [HB HT KW CW PW]
  · iapply (sepL_zip ws); isplitl [HB]; · iexact HB
    iapply (sepL_zip ws); isplitl [HT]; · iexact HT
    iapply (sepL_zip ws); isplitl [KW]; · iexact KW
    iapply (sepL_zip ws); isplitl [CW]; · iexact CW
    iexact PW
  icases HU with ⟨HU, HS⟩
  iapply (WP_upd (F := F) c prog _)
  iapply (body_run X W K c _)
  isplitr; · iexact HK
  isplitl [HO]; · iexact HO
  isplitl [HX HW HP Cb Pb Kb HU]
  · iapply (start_of X W c)
    isplitl [HX HW HP]
    · isplitl [HX]; · iexact HX
      isplitl [HW]; · iexact HW
      iexact HP
    isplitl [Cb Pb]
    · unfold armed; isplitl [Cb]; · iexact Cb
      iexact Pb
    isplitl [Kb]; · iexact Kb
    iexact HU
  iintro HO HF
  imod (finish_to X W K c) $$ [HF HS] with ⟨HI, HP, Hz, HB, HT, HZ⟩
  · isplitr; · iexact HK
    isplitl [HF]; · iexact HF
    iexact HS
  imodintro
  isplitl [HP HB Hz HZ]
  · isplitl [HP HB]
    · iapply (bufs_join (F := F) c)
      isplitl [HP]; · iexists _; iexact HP
      iexact HB
    isplitl [Hz]; · iexact Hz
    iexact HZ
  isplitl [HO]; · iexact HO
  isplitl [HI]; · iexact HI
  iexact HT

end Run

/-! ## The launch's data -/

variable (m : (ℓ : Loc nD τ sig) → Buf (Elt F) ℓ) (ρ : Dev nD → PrngReg)

/-- Device `c`'s columns of the first operand and rows of the second, as launched. -/
def xIn (c : Dev nD) : Vec F S1024x32 .bf16 := (win0_0.blk (0 : Fin 1)).view.read (Elt F) ((s₀ m ρ).mem ((c : Thread nD τ).loc main_arg0))
def wIn (c : Dev nD) : Vec F S32x1024 .bf16 := (win0_1.blk (0 : Fin 1)).view.read (Elt F) ((s₀ m ρ).mem ((c : Thread nD τ).loc main_arg1))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => outF (xIn m ρ) (wIn m ρ) c
  Φ t := match t with
    | ⟨0, _⟩ => iprop(ready (xIn m ρ) (wIn m ρ) c ∗ Pipeline.scopedRest spec0 c)
    | ⟨_ + 1, _⟩ => iprop(Pipeline.scopedRest spec0 c ∗ zeros (F := F) c)
  q _ := fullShare
  owed t := match t with
    | ⟨0, _⟩ => O₀ c
    | ⟨_ + 1, _⟩ => 0

theorem share_full (c : Dev nD) (w : Fin cfg0.W) : (dats m ρ 0 c).share w = fullShare := by unfold Dat.share; split <;> rfl

/-- A staging buffer held whole, at contents `v`. -/
abbrev staged (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))
theorem owns_staged (c : Dev nD) (b : Ref sig .tc) (v : b.ty.Contents (Elt F)) :
    (owns (Ix := Unit) (Name := ℕ) (U := UU) (Lvl := ℕ) (c : Thread nD τ) (Memref.whole b) fullShare v : sProp 𝕄) = staged c b v := by
  unfold staged owns; simp only [Memref.view_whole, View.read_whole, View.set_whole]

set_option maxRecDepth 8000 in
def obligPre (c : Dev nD) : sProp 𝕄 :=
  iprop((ready (xIn m ρ) (wIn m ρ) c ∗ Pipeline.scopedRest spec0 c) ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
def obligPost (c : Dev nD) : sProp 𝕄 :=
  iprop((Pipeline.scopedRest spec0 c ∗ zeros (F := F) c) ∗ (dats m ρ 0 c).owesAt () t0_0.succ
    ∗ staged c cc0_stg0_0 (xIn m ρ c) ∗ staged c cc0_stg1_0 (wIn m ρ c) ∗ staged c cc0_stg2_0 (outF (xIn m ρ) (wIn m ρ) c))

theorem before_0 (c : Dev nD) (d) : (dats m ρ 0 c).before (0 : Fin 3) t0_0 d = xIn m ρ c := by
  unfold Dat.before; rw [if_pos (fetch0_0 t0_0)]; rfl
theorem before_1 (c : Dev nD) (d) : (dats m ρ 0 c).before (1 : Fin 3) t0_0 d = wIn m ρ c := by
  unfold Dat.before; rw [if_pos (fetch0_1 t0_0)]; rfl

theorem WP_eq (c : Dev nD) {p p' : P F PUnit} {A : sProp 𝕄} {Q : PUnit → sProp 𝕄} (h : p = p') (hp : A ⊢ WP c p Q) : A ⊢ WP c p' Q := h ▸ hp

theorem oblig (c : Dev nD) : obligPre m ρ c ⊢ WP c prog fun _ => obligPost m ρ c := by
  unfold obligPre
  iintro ⟨⟨HR, HB⟩, HO, ⟨%d0, %f0, %h0, HX⟩, ⟨%d1, %f1, %h1, HW⟩, ⟨%d2, %f2, %h2, HT⟩⟩
  unfold Dat.owesAt Pipeline.owesWithin
  icases HO with ⟨%Wt, %hWt, HO⟩
  rw [show (dats m ρ 0 c).owed t0_0.castSucc = O₀ c from rfl]
  rw [before_0] at h0
  rw [before_1] at h1
  subst h0 h1
  have hQ : iprop((Pipeline.scopedRest spec0 c ∗ zeros (F := F) c) ∗ ow c [] ∗ (inX c (xIn m ρ c) ∗ inW c (wIn m ρ c)) ∗ ownsTc c mOut fullShare (outF (xIn m ρ) (wIn m ρ) c))
      ⊢ obligPost m ρ c := by
    unfold obligPost ow ownsTc inX inW Dat.owesAt Pipeline.owesWithin
    rw [owns_staged, show (dats m ρ 0 c).owed t0_0.succ = Os [] from rfl]
    iintro ⟨HB, ⟨%Wt', HO⟩, ⟨HX, HW⟩, HT⟩
    isplitl [HB]; · iexact HB
    isplitl [HO]
    · iexists Wt'
      isplitr; · ipureintro; exact fun _ _ => Or.inl trivial
      iexact HO
    isplitl [HX]
    · iexists _; isplitr; · (ipureintro; rfl)
      iexact HX
    isplitl [HW]
    · iexists _; isplitr; · (ipureintro; rfl)
      iexact HW
    iexact HT
  iapply ((whole_run (xIn m ρ) (wIn m ρ) c).trans (show _ ⊢ WP c prog fun _ => obligPost m ρ c by unfold WP; exact wp_mono frame (wpE (defs₀ (F := F)) 𝒱₀ (c : Thread nD τ) none) Set.univ fun _ => hQ))
  isplitl [HR]; · iexact HR
  isplitl [HB]; · iexact HB
  isplitl [HO]; · unfold ow; iexists Wt; iexact HO
  isplitl [HX HW]
  · unfold inX inW; isplitl [HX]; · iexact HX
    iexact HW
  rw [whole_eq c mOut (whole_set _)]
  iexists f2; iexact HT

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_staged]
  show obligPre m ρ c ⊢ _
  have hb : defs₀ (F := F) Proc.tc 0 (t0_0, cfg0.slots t0_0) = prog := (show _ = bodyAt0 t0_0 from rfl).trans body_eq
  have h := WP_eq c hb.symm (oblig m ρ c)
  have e0 : (dats m ρ 0 c).after 0 t0_0 = xIn m ρ c := rfl
  have e1 : (dats m ρ 0 c).after 1 t0_0 = wIn m ρ c := rfl
  have e2 : (dats m ρ 0 c).after 2 t0_0 = outF (xIn m ρ) (wIn m ρ) c := rfl
  have e3 : (dats m ρ 0 c).Φ t0_0.succ = iprop(Pipeline.scopedRest spec0 c ∗ zeros (F := F) c) := rfl
  rw [e0, e1, e2, e3]
  unfold WP obligPost at h
  convert h using 3

/-! ## Into the body and out of it -/

theorem start_ready (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt (xIn m ρ) (wIn m ρ) c)
      ⊢ |={Set.univ}=> iprop(ready (xIn m ρ) (wIn m ρ) c ∗ emp) := by
  unfold dealt records kept paid
  iintro ⟨-, Hl, Hc, -, ⟨%K, ⟨HI, HR⟩, Hp, Ht⟩⟩
  ihave Hc := (crd_of (F := F) c) $$ Hc
  imodintro
  unfold ready
  isplitl
  · isplitl [Hl HI HR]
    · iexists K
      unfold known ranked
      isplitl [HI]; · iexact HI
      isplitl [HR]; · iexact HR
      iexact Hl
    isplitl [Ht]; · iexact Ht
    isplitl [Hc]; · iexact Hc
    iexact Hp
  · iempintro

theorem enter (c : Dev nD) :
    iprop(ready (xIn m ρ) (wIn m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(ready (xIn m ρ) (wIn m ρ) c ∗ Pipeline.scopedRest spec0 c) from rfl]
  iintro ⟨Hs, -, Hr⟩
  isplitl [Hs]; · iexact Hs
  iexact Hr

theorem zeros_all (c : Dev nD) : zeros (F := F) c ⊢ (bigSep Finset.univ fun x : Cl => zer (F := F) c x : sProp 𝕄) := by
  unfold zeros zerW
  rw [cl_eq, dc_eq fun x => zer (F := F) c x]

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Pipeline.scopedRest spec0 c ∗ zeros (F := F) c) from rfl]
  iintro ⟨Hr, Hz⟩
  ihave Hz := ((zeros_all (F := F) c).trans (Entails.of_eq (zeros_eq (F := F) c).symm)) $$ Hz
  icases Hz with ⟨Ho, Hu⟩
  isplitl [Hu]; · iexact Hu
  isplitl [Ho]; · iexact Ho
  iexact Hr

theorem stage_level : ∀ (w : Fin 3) (s : Fin (spec0 w).nbuf), ∀ x : Cl, csem x ≠ .dma ((spec0 w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma ((spec0 w).sem s)) () ≤ 0 := by unfold lv; rw [which_none (stage_level w s)]; exact Nat.le_refl 0
    rcases t with ⟨_ | _, ht⟩
    · exact mayWait_at c _ (debts0 c) hl (above_0 c)
    · exact mayWait_at c _ [] hl (above_nil 0)

/-! ## The run -/

def finalA (c : Dev nD) (w : Fin cfg0.W) : Buf (Elt F) ((cfg0.win w).arr.view.loc (c : Thread nD τ)) := (dats m ρ 0 c).arrAt w cfg0.N

def Ended : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with all counters at zero, at any float values, every fair run of the thirty-two devices ends, with
    each device's arrays at the computed contents and every semaphore counter at zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := funds (xIn m ρ) (wIn m ρ)) (G' := dealt (xIn m ρ) (wIn m ρ)) (u₀ := u₀)
    (hu₀ := by
      unfold u₀
      iintro Hu
      ihave H := (ownU_pair _ _) $$ Hu
      icases H with ⟨HP, HX⟩
      imod (funded (xIn m ρ) (wIn m ρ)) $$ HX with HG
      imodintro
      isplitl [HP] <;> iassumption)
    (hglob := all_dealt (xIn m ρ) (wIn m ρ))
    (hA := fun _ _ => rfl) (hpf := fun _ k => k.elim0)
    (X := ready (xIn m ρ) (wIn m ρ)) (Y := fun c => unscopedSems0 c) (Z := fun _ => iprop(emp))
    (hX := start_ready m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_0 (c : Dev nD) : finalA m ρ c (0 : Fin 3) = m ((c : Thread nD τ).loc main_arg0) := (dats (F := F) m ρ 0 c).arrAt_in (0 : Fin 3) rfl _
theorem final_1 (c : Dev nD) : finalA m ρ c (1 : Fin 3) = m ((c : Thread nD τ).loc main_arg1) := (dats (F := F) m ρ 0 c).arrAt_in (1 : Fin 3) rfl _

/-- The run leaves the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (final_0 m ρ c), (h.1 c (1 : Fin 3)).trans (final_1 m ρ c)⟩, h.2⟩) (run_main m ρ)

end Cert.KernelIdeal.Gelu

end
-- ==== Proof.Value.lean ====
/- What the kernel computes, over the extended reals: on every device, the gelu of the whole product. -/
module

public import proofs.«01_k».proof.Proof.Launch
public import Idealize.ShloMosaic.Lib.MatmulPlain
public import Idealize.ShloMosaic.Lib.StackMember

@[expose] public section

noncomputable section

namespace Cert.KernelIdeal.Gelu

open Idealize.ShloMosaic Idealize.ShloMosaic.TcCoe Idealize.ShloMosaic.ValueIdx Idealize.SL.Sem Cert.KernelIdeal Cert.KernelIdeal.Gen

/-! ## Windows: each is the whole array -/

section Windows
variable {F : FTy → Type} [FloatOps F] (m : (ℓ : Loc nD τ sig) → Buf (Elt F) ℓ) (ρ : Dev nD → PrngReg)

theorem xIn_eq (c : Dev nD) : xIn m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem wIn_eq (c : Dev nD) : wIn m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _
/-- The result array ends at the contents the body left in its buffer. -/
theorem final_2 (c : Dev nD) : finalA m ρ c (2 : Fin 3) = outF (xIn m ρ) (wIn m ρ) c := by
  have hz : (fun a => (win0_2.index (0 : Fin 1)) a * main_v1.ty.shape.size a) = fun _ => 0 :=
    funext fun a => by fin_cases a <;> decide
  have hr := Memref.read_access_unit_zero (Elt F) main_v1 hz (fun a => by fin_cases a <;> decide) (finalA m ρ c (2 : Fin 3))
  have hw : (win0_2.blk (0 : Fin 1)).view.read (Elt F) (finalA m ρ c (2 : Fin 3)) = outF (xIn m ρ) (wIn m ρ) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact hr.symm.trans hw
end Windows

/-! ## The blocks, over the extended reals -/

theorem ofB_toB (v : Vec Ideal S32x512 .f32) : ofB (F := Ideal) (toB v) = v := shapeCast_shapeCast v _ _
theorem uncast (v : Vec Ideal S32x512 .f32) : shapeCast S32x512 (shapeCast S1x1x32x512 v shapeCasts_S32x512_S1x1x32x512) shapeCasts_S1x1x32x512_S32x512 = v :=
  shapeCast_shapeCast v _ _
theorem ofB_hToS (v : Vec Ideal S32x512 .f32) : ofB (F := Ideal) (hToS (F := Ideal) (gToB (F := Ideal) v)) = v := by
  show shapeCast S32x512 (shapeCast S1x1x32x512 (shapeCast S32x512 (shapeCast S1x32x512 (v : S32x512.Idx → EReal) _) _) _) _ = _
  rw [shapeCast_shapeCast, shapeCast_shapeCast]

variable (X : Dev nD → Vec Ideal S1024x32 .bf16) (W : Dev nD → Vec Ideal S32x1024 .bf16)

/-- Block `(r, w)` of a square. -/
abbrev tileOf (V : Vec Ideal S1024x1024 .f32) (r : Dev nD) (w : Fin 2) : Vec Ideal S32x512 .f32 := fun j => V ((rTile r w).emb j)

theorem rowsAt_eq (V : Vec Ideal S1024x1024 .f32) (off : Fin 2 → Nat) (inb) (r : Dev nD) (w : Fin 2)
    (h : ∀ a, off a = (![32 * r.val, 512 * w.val] : Fin 2 → Nat) a) : rowsAt V off inb = tileOf V r w := by
  obtain rfl : off = _ := funext h
  rfl

/-- The pair's sum of block `(r, w)`. -/
abbrev pairSum (c r : Dev nD) (w : Fin 2) : Vec Ideal S32x512 .f32 :=
  addf (F := Ideal) (φ := .f32) (tileOf (partV X W c) r w) (tileOf (partV X W (partnerD c)) r w)

theorem cmb_eq (c : Dev nD) (w : Fin 2) (e : Fin 16) :
    cmbV X W c w e = shapeCast S1x1x32x512 (pairSum X W c (mineD c e) w) shapeCasts_S32x512_S1x1x32x512 := by
  unfold cmbV comb xrV xsV
  rw [ofB_toB, rowsAt_eq _ _ _ (mineD c e) w (mOff_eq c w e),
    rowsAt_eq _ _ _ (mineD c e) w (fun a => by rw [pOff_eq, partner_mine, partner_partner])]

theorem r1_eq (c : Dev nD) (w : Fin 2) (j : Fin 16) : ofB (r1V X W c w j) = pairSum X W (mineD c j) c w := by
  unfold r1V s1V cToB
  rw [ofB_toB, cmb_eq, uncast, mine_opp]
theorem tot0_eq (c : Dev nD) (w : Fin 2) : tot0 X W c w = pairSum X W (mineD c 0) c w := by
  unfold tot0
  rw [cmb_eq, uncast, mine_zero]

/-- Adding up a list of vectors, read at an index. -/
theorem foldl_apply (f : Fin 16 → FVec Ideal S32x512 .f32) (i : S32x512.Idx) : ∀ (l : List (Fin 16)) (t : FVec Ideal S32x512 .f32),
    l.foldl (fun t j => addf t (f j)) t i = ((t i : EReal) + (l.map fun j => (f j i : EReal)).sum : EReal)
  | [], t => (add_zero (t i : EReal)).symm
  | a :: l, t => by
    rw [List.foldl_cons, foldl_apply f i l, List.map_cons, List.sum_cons, ← add_assoc]
    rfl

/-- The total at the owner is the sum of all the devices' parts. -/
theorem tot_eq (c : Dev nD) (w : Fin 2) (i : S32x512.Idx) :
    (totV X W c w i : EReal) = ∑ d : Dev nD, (partV X W d ((rTile c w).emb i) : EReal) := by
  unfold totV
  rw [foldl_apply, tot0_eq, show (es15.map fun j => (ofB (r1V X W c w j) i : EReal)) = es15.map fun j => (pairSum X W (mineD c j) c w i : EReal) from
    List.map_congr_left fun j _ => by rw [r1_eq]]
  rw [← List.sum_cons, ← List.map_cons (f := fun j => (pairSum X W (mineD c j) c w i : EReal)), show (0 : Fin 16) :: es15 = List.finRange 16 from by decide,
    ← Fin.sum_univ_def]
  show ∑ e : Fin 16, ((partV X W (mineD c e) ((rTile c w).emb i) : EReal) + partV X W (partnerD (mineD c e)) ((rTile c w).emb i)) = _
  rw [Finset.sum_add_distrib, ← Equiv.sum_comp (groupsE c), Fintype.sum_sum_type]
  rfl

/-! ## The product -/

theorem part_apply (d : Dev nD) (r k : Fin 1024) :
    (partV X W d (ix2 r k) : EReal) = ∑ n : Fin 32, (X d (ix2 r n) : EReal) * W d (ix2 n k) := by
  unfold partV k0_pay1
  simp only [shapeCast_self]
  refine (Ideal.matmul_plain_apply (M := 1024) (K := 32) (N := 1024) none (X d) (W d) _ r k).trans ?_
  show Ideal.ofBits .f32 0x00000000#32 + _ = _
  rw [Ideal.ofBits_zero_f32, zero_add]

variable (x : Vec Ideal S1024x1024 .bf16) (y : Vec Ideal S1024x1024 .bf16)

/-- The whole product. -/
def prodV : Vec Ideal S1024x1024 .f32 := Host.dotGeneral (F := Ideal) (φ₁ := .bf16) (φ₂ := .bf16) (DotDims.plain 1024 1024 1024) none x y

theorem parts_sum (hX : ∀ c : Dev nD, X c = Layout.block ⟨2, ![1024, 32]⟩ ⟨2, ![1024, 1024]⟩ 1 32 c x)
    (hW : ∀ c : Dev nD, W c = Layout.block ⟨2, ![32, 1024]⟩ ⟨2, ![1024, 1024]⟩ 0 32 c y) (i : S1024x1024.Idx) :
    ∑ d : Dev nD, (partV X W d i : EReal) = prodV x y i := by
  obtain ⟨r, k, rfl⟩ : ∃ (r k : Fin 1024), i = ix2 r k := ⟨i 0, i 1, eq_ix2 i⟩
  unfold prodV
  rw [StackMember.dotGeneral_plain_apply (m := 1024) (k := 1024) (n := 1024) none x y r k,
    ← Equiv.sum_comp (finProdFinEquiv (m := 32) (n := 32)), Fintype.sum_prod_type]
  refine Finset.sum_congr rfl fun d _ => ?_
  rw [part_apply]
  refine Finset.sum_congr rfl fun n _ => ?_
  rw [hX, hW, Layout.block_apply, Layout.block_apply]
  have hx : ∀ h : Layout.Tiles ⟨2, ![1024, 32]⟩ ⟨2, ![1024, 1024]⟩ 1 32, h.idx d (ix2 r n) = ix2 r (finProdFinEquiv (m := 32) (n := 32) (d, n)) := fun h => by
    funext a; apply Fin.ext
    match a with
    | ⟨0, _⟩ => rfl
    | ⟨1, _⟩ => show d.val * 32 + n.val = n.val + 32 * d.val; omega
  have hw : ∀ h : Layout.Tiles ⟨2, ![32, 1024]⟩ ⟨2, ![1024, 1024]⟩ 0 32, h.idx d (ix2 n k) = ix2 (finProdFinEquiv (m := 32) (n := 32) (d, n)) k := fun h => by
    funext a; apply Fin.ext
    match a with
    | ⟨0, _⟩ => show d.val * 32 + n.val = n.val + 32 * d.val; omega
    | ⟨1, _⟩ => rfl
  rw [hx, hw]

/-! ## The gelu -/

/-- The gelu of one number, with the constants of the program. -/
def gelu1 (t : EReal) : EReal :=
  (Ideal.ofBits .f32 0x3F000000#32 * t)
    * (Ideal.ofBits .f32 0x3F800000#32 + Ideal.tanh (Ideal.ofBits .f32 0x3F4C422A#32 * (t + Ideal.ofBits .f32 0x3D372713#32 * (t * t * t))))

theorem gelu_apply (t : FVec Ideal S32x512 .f32) (i : S32x512.Idx) : (geluV t i : EReal) = gelu1 (t i) := by
  show (Ideal.ofBits .f32 0x3F000000#32 * (t i : EReal))
    * (Ideal.ofBits .f32 0x3F800000#32 + Ideal.tanh (Ideal.ofBits .f32 0x3F4C422A#32 * ((t i : EReal) + Ideal.ofBits .f32 0x3D372713#32 * (t i : EReal) * (t i : EReal) * (t i : EReal)))) = _
  unfold gelu1
  rw [mul_assoc (Ideal.ofBits .f32 0x3D372713#32), mul_assoc (Ideal.ofBits .f32 0x3D372713#32)]

theorem out_block (c r : Dev nD) (w : Fin 2) : outV X W c r w = geluV (totV X W r w) := by
  unfold outV
  split
  · next h => subst h; rfl
  · exact ofB_hToS _

theorem emb_inBlk (i : S1024x1024.Idx) : (rTile (rowBlk i) (colBlk i)).emb (inBlk i) = i := by
  funext a; apply Fin.ext
  match a with
  | ⟨0, _⟩ => show 32 * ((i 0).val / 32) + 1 * ((i 0).val % 32) = (i 0).val; omega
  | ⟨1, _⟩ => show 512 * ((i 1).val / 512) + 1 * ((i 1).val % 512) = (i 1).val; omega

/-- Every device ends with the gelu of the whole product. -/
theorem out_eq (hX : ∀ c : Dev nD, X c = Layout.block ⟨2, ![1024, 32]⟩ ⟨2, ![1024, 1024]⟩ 1 32 c x)
    (hW : ∀ c : Dev nD, W c = Layout.block ⟨2, ![32, 1024]⟩ ⟨2, ![1024, 1024]⟩ 0 32 c y) (c : Dev nD) (i : S1024x1024.Idx) :
    (outF X W c i : EReal) = gelu1 (prodV x y i) := by
  show outV X W c (rowBlk i) (colBlk i) (inBlk i) = _
  rw [out_block, gelu_apply, tot_eq, emb_inBlk, parts_sum X W x y hX hW]

end Cert.KernelIdeal.Gelu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Bits.Launch
public import Idealize.ShloMosaic.Adequacy
public import Idealize.ShloMosaic.Init

@[expose] public section

noncomputable section

namespace Cert.Proof

open Idealize.ShloMosaic Idealize.SL.Sem Cert.Kernel

/-- The reference's frame: its generated run leaves the arguments alone, and it declares no semaphore. -/
theorem frame_r : Cert.quiescent_ReferenceIdeal := by
  intro m ρ _
  exact (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run m ρ)

/-- The value: the whole result on every device, over the extended reals. -/
theorem value : Cert.algebraic_KernelIdeal_ReferenceIdeal := by
  intro m ρ m' ρ' _ hagree
  let x := m' (((0 : Dev Cert.ReferenceIdeal.nD).tc : Thread _ Cert.ReferenceIdeal.τ).loc Cert.ReferenceIdeal.main_arg0)
  let y := m' (((0 : Dev Cert.ReferenceIdeal.nD).tc : Thread _ Cert.ReferenceIdeal.τ).loc Cert.ReferenceIdeal.main_arg1)
  refine ⟨fun i => Cert.KernelIdeal.Gelu.gelu1 (Cert.KernelIdeal.Gelu.prodV x y i), ?_, ?_⟩
  · refine (θ_run Cert.KernelIdeal.defs _ _).mono (fun _ h c => ⟨(h.1 c (2 : Fin 3)).trans ?_,
      (h.1 c (0 : Fin 3)).trans (Cert.KernelIdeal.Gelu.final_0 m ρ c), (h.1 c (1 : Fin 3)).trans (Cert.KernelIdeal.Gelu.final_1 m ρ c)⟩)
      (Cert.KernelIdeal.Gelu.run_main (F := Ideal) m ρ)
    rw [Cert.KernelIdeal.Gelu.final_2]
    exact funext fun i => Cert.KernelIdeal.Gelu.out_eq _ _ x y
      (fun d => (Cert.KernelIdeal.Gelu.xIn_eq m ρ d).trans (hagree d).1) (fun d => (Cert.KernelIdeal.Gelu.wIn_eq m ρ d).trans (hagree d).2) c i
  · exact (θ_run Cert.ReferenceIdeal.defs _ _).mono (fun _ h => ⟨(h 0).1.trans rfl, (h 0).2.1, (h 0).2.2⟩)
      (Cert.ReferenceIdeal.Value.run (F := Ideal) m' ρ')

/-- The claim. -/
theorem claim : Cert.Claim := ⟨Cert.Kernel.Gen.facts, Cert.KernelIdeal.Gen.facts, Cert.ReferenceIdeal.Gen.facts,
  fun m ρ _ => Cert.Kernel.Gelu.run_frame m ρ, fun m ρ _ => Cert.KernelIdeal.Gelu.run_frame m ρ, frame_r, trivial, value⟩

end Cert.Proof

end
